-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_padded_last [hPre_padded_last : Cert.Pre_padded_last.Facts] (m : (ℓ : Loc Cert.KernelIdeal.nD Cert.KernelIdeal.τ Cert.KernelIdeal.sig) → Buf (Elt Ideal) ℓ) : Prop :=
  ∀ c : Dev Cert.KernelIdeal.nD,
    (Cert.Pre_padded_last.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_padded_last [hPre_padded_last : Cert.Pre_padded_last.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_padded_last.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_padded_last [hKernelIdeal : Cert.KernelIdeal.Facts] [hPre_padded_last : Cert.Pre_padded_last.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_padded_last m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_padded_last [hReferenceIdeal : Cert.ReferenceIdeal.Facts] [hPre_padded_last : Cert.Pre_padded_last.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_padded_last m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_padded_last [hKernelIdeal : Cert.KernelIdeal.Facts] [hReferenceIdeal : Cert.ReferenceIdeal.Facts] [hPre_padded_last : Cert.Pre_padded_last.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_padded_last m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_padded_last : Cert.Pre_padded_last.Facts),
    quiescent_Kernel (hKernel := hKernel)
    ∧ quiescent_KernelIdeal (hKernelIdeal := hKernelIdeal)
    ∧ quiescent_KernelIdeal_pre_padded_last (hKernelIdeal := hKernelIdeal) (hPre_padded_last := hPre_padded_last)
    ∧ quiescent_ReferenceIdeal (hReferenceIdeal := hReferenceIdeal)
    ∧ quiescent_ReferenceIdeal_pre_padded_last (hReferenceIdeal := hReferenceIdeal) (hPre_padded_last := hPre_padded_last)
    ∧ preserves_Kernel_KernelIdeal
    ∧ algebraic_KernelIdeal_ReferenceIdeal_pre_padded_last (hKernelIdeal := hKernelIdeal) (hReferenceIdeal := hReferenceIdeal) (hPre_padded_last := hPre_padded_last)
-- ==== Pre_padded_last.lean ====
abbrev S5000x4 : Shape := ⟨2, ![5000, 4]⟩
abbrev S5000 : Shape := ⟨1, ![5000]⟩
abbrev S_ : Shape := ⟨0, ![]⟩

class Facts : Prop where
  bcast_S_S5000 : S_.BroadcastsInDim S5000 (![] : Fin 0 → Fin S5000.rank)

variable [Facts]

def fn {F : FTy → Type} [FloatOps F] (main_arg0 : FVec F S5000x4 .f32) (main_arg1 : FVec F S5000x4 .f32) (main_arg2 : FVec F S5000 .f32) : IVec S5000 1 :=
  let main_cst : FVec F S_ .f32 := constant S_ .f32 0xBF800000#32
  let main_v0 : FVec F S5000 .f32 := broadcastInDim S5000 ![] bcast_S_S5000 main_cst
  let main_v1 : IVec S5000 1 := cmpf .oge main_arg2 main_v0
  main_v1
-- ==== Kernel.lean ====
abbrev S5000x4 : Shape := ⟨2, ![5000, 4]⟩
abbrev S5000 : Shape := ⟨1, ![5000]⟩
abbrev S_ : Shape := ⟨0, ![]⟩
abbrev S5120 : Shape := ⟨1, ![5120]⟩
abbrev S1x5120 : Shape := ⟨2, ![1, 5120]⟩
abbrev S5120x1 : Shape := ⟨2, ![5120, 1]⟩
abbrev S5120x4 : Shape := ⟨2, ![5120, 4]⟩
abbrev S4x5120 : Shape := ⟨2, ![4, 5120]⟩
abbrev S8x5120 : Shape := ⟨2, ![8, 5120]⟩
abbrev S8x1024 : Shape := ⟨2, ![8, 1024]⟩
abbrev S1024x8x128 : Shape := ⟨3, ![1024, 8, 128]⟩
abbrev S3x5120 : Shape := ⟨2, ![3, 5120]⟩
abbrev S32x1 : Shape := ⟨2, ![32, 1]⟩
abbrev S32x5120 : Shape := ⟨2, ![32, 5120]⟩
abbrev S1024x1 : Shape := ⟨2, ![1024, 1]⟩
abbrev S1024x8 : Shape := ⟨2, ![1024, 8]⟩
abbrev S1x512 : Shape := ⟨2, ![1, 512]⟩
abbrev S1024x512 : Shape := ⟨2, ![1024, 512]⟩
abbrev S8x512 : Shape := ⟨2, ![8, 512]⟩
abbrev S1x1024 : Shape := ⟨2, ![1, 1024]⟩
abbrev S1x128 : Shape := ⟨2, ![1, 128]⟩
abbrev S8x128 : Shape := ⟨2, ![8, 128]⟩
abbrev S1x8x128 : Shape := ⟨3, ![1, 8, 128]⟩
abbrev S128x1 : Shape := ⟨2, ![128, 1]⟩
abbrev S128x1x1 : Shape := ⟨3, ![128, 1, 1]⟩
abbrev S128x8x128 : Shape := ⟨3, ![128, 8, 128]⟩
abbrev S8x8x128 : Shape := ⟨3, ![8, 8, 128]⟩
abbrev S1 : Shape := ⟨1, ![1]⟩
abbrev S1x1x1 : Shape := ⟨3, ![1, 1, 1]⟩
abbrev S1x1 : Shape := ⟨2, ![1, 1]⟩
abbrev S1000x5 : Shape := ⟨2, ![1000, 5]⟩

abbrev nBuf : Space → Nat
  | .hbm => 20
  | .vmem => 5
  | .smem => 0
  | _ => 0

abbrev bufTy : (tb : Table) → Fin (tcTables nBuf tb) → BufTy
  | .hbm, ⟨0, _⟩ => ⟨S5000x4, .f32⟩
  | .hbm, ⟨1, _⟩ => ⟨S5000x4, .f32⟩
  | .hbm, ⟨2, _⟩ => ⟨S5000, .f32⟩
  | .hbm, ⟨3, _⟩ => ⟨S_, .f32⟩
  | .hbm, ⟨4, _⟩ => ⟨S_, .f32⟩
  | .hbm, ⟨5, _⟩ => ⟨S5120, .f32⟩
  | .hbm, ⟨6, _⟩ => ⟨S1x5120, .f32⟩
  | .hbm, ⟨7, _⟩ => ⟨S5120x1, .f32⟩
  | .hbm, ⟨8, _⟩ => ⟨S_, .i32⟩
  | .hbm, ⟨9, _⟩ => ⟨S_, .f32⟩
  | .hbm, ⟨10, _⟩ => ⟨S5120x4, .f32⟩
  | .hbm, ⟨11, _⟩ => ⟨S4x5120, .f32⟩
  | .hbm, ⟨12, _⟩ => ⟨S_, .i32⟩
  | .hbm, ⟨13, _⟩ => ⟨S_, .f32⟩
  | .hbm, ⟨14, _⟩ => ⟨S5120x4, .f32⟩
  | .hbm, ⟨15, _⟩ => ⟨S4x5120, .f32⟩
  | .hbm, ⟨16, _⟩ => ⟨S8x5120, .f32⟩
  | .hbm, ⟨17, _⟩ => ⟨S8x1024, .f32⟩
  | .hbm, ⟨18, _⟩ => ⟨S1024x8, .f32⟩
  | .hbm, ⟨19, _⟩ => ⟨S1000x5, .f32⟩
  | .local _ .vmem, ⟨0, _⟩ => ⟨S1x5120, .f32⟩
  | .local _ .vmem, ⟨1, _⟩ => ⟨S5120x1, .f32⟩
  | .local _ .vmem, ⟨2, _⟩ => ⟨S8x5120, .f32⟩
  | .local _ .vmem, ⟨3, _⟩ => ⟨S8x1024, .f32⟩
  | .local _ .vmem, ⟨4, _⟩ => ⟨S1024x8x128, .f32⟩
  | _, _ => ⟨S5000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call2_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c160_i32 : BitVec 32 := 160#32
  let v60 : BitVec 32 := Scalar.addi c0_i32 c160_i32
  let c1_i32 : BitVec 32 := 1#32
  ⟨c0_i32, v60, c1_i32⟩
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v706 : BitVec 32 := Scalar.muli arg5 c32_i32
  let v707 : Index := Scalar.indexCast v706
  let c0_152 : Index := 0#32
  ![v707.toNat, 0]
@[reducible] def k0_t2_loop : Scf.Loop 32 :=
  let c0_i32_147 : BitVec 32 := 0#32
  let c125_i32 : BitVec 32 := 125#32
  let v692 : BitVec 32 := Scalar.addi c0_i32_147 c125_i32
  let c1_i32_148 : BitVec 32 := 1#32
  ⟨c0_i32_147, v692, c1_i32_148⟩
def k0_off2 (k0_t2 : Fin k0_t2_loop.trips) : Fin 3 → Nat :=
  let c0_i32_147 : BitVec 32 := 0#32
  let c1_i32_148 : BitVec 32 := 1#32
  let arg5 : BitVec 32 := Scf.iv c0_i32_147 c1_i32_148 k0_t2
  let c8_i32 : BitVec 32 := 8#32
  let v706 : BitVec 32 := Scalar.muli arg5 c8_i32
  let v707 : Index := Scalar.indexCast v706
  let c0_152 : Index := 0#32
  let c0_153 : Index := 0#32
  ![v707.toNat, 0, 0]
abbrev stage0_0 : Fin 1 → Memref sig .tc .vmem S1x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S5000x4 : Shape := ⟨2, ![5000, 4]⟩
abbrev S5000 : Shape := ⟨1, ![5000]⟩
abbrev S5000x1 : Shape := ⟨2, ![5000, 1]⟩
abbrev S_ : Shape := ⟨0, ![]⟩
abbrev S1000 : Shape := ⟨1, ![1000]⟩
abbrev S1000x1 : Shape := ⟨2, ![1000, 1]⟩
abbrev S1000x4 : Shape := ⟨2, ![1000, 4]⟩
abbrev S1x1000 : Shape := ⟨2, ![1, 1000]⟩
abbrev S1000x1000 : Shape := ⟨2, ![1000, 1000]⟩
abbrev S1 : Shape := ⟨1, ![1]⟩
abbrev S1000x5 : Shape := ⟨2, ![1000, 5]⟩

abbrev nBuf : Space → Nat
  | .hbm => 228
  | .vmem => 0
  | .smem => 0
  | _ => 0

abbrev hbmTy0_0 (i : Nat) : BufTy := match i % 128 with
  | 0 => ⟨S5000x4, .f32⟩
  | 1 => ⟨S5000x4, .f32⟩
  | 2 => ⟨S5000, .f32⟩
  | 3 => ⟨S5000x1, .f32⟩
  | 4 => ⟨S5000, .f32⟩
  | 5 => ⟨S5000x1, .f32⟩
  | 6 => ⟨S5000, .f32⟩
  | 7 => ⟨S5000x1, .f32⟩
  | 8 => ⟨S5000, .f32⟩
  | 9 => ⟨S5000x1, .f32⟩
  | 10 => ⟨S5000, .f32⟩
  | 11 => ⟨S5000, .f32⟩
  | 12 => ⟨S5000, .f32⟩
  | 13 => ⟨S_, .f32⟩
  | 14 => ⟨S5000, .f32⟩
  | 15 => ⟨S5000, .f32⟩
  | 16 => ⟨S5000, .f32⟩
  | 17 => ⟨S_, .f32⟩
  | 18 => ⟨S5000, .f32⟩
  | 19 => ⟨S5000, .f32⟩
  | 20 => ⟨S5000, .f32⟩
  | 21 => ⟨S5000x1, .f32⟩
  | 22 => ⟨S5000, .f32⟩
  | 23 => ⟨S5000x1, .f32⟩
  | 24 => ⟨S5000, .f32⟩
  | 25 => ⟨S5000x1, .f32⟩
  | 26 => ⟨S5000, .f32⟩
  | 27 => ⟨S5000x1, .f32⟩
  | 28 => ⟨S5000, .f32⟩
  | 29 => ⟨S5000, .f32⟩
  | 30 => ⟨S5000, .f32⟩
  | 31 => ⟨S5000, .f32⟩
  | 32 => ⟨S5000, .f32⟩
  | 33 => ⟨S5000, .f32⟩
  | 34 => ⟨S5000, .f32⟩
  | 35 => ⟨S5000, .f32⟩
  | 36 => ⟨S5000, .f32⟩
  | 37 => ⟨S_, .f32⟩
  | 38 => ⟨S5000, .f32⟩
  | 39 => ⟨S5000, .f32⟩
  | 40 => ⟨S5000, .f32⟩
  | 41 => ⟨S_, .f32⟩
  | 42 => ⟨S5000, .f32⟩
  | 43 => ⟨S5000, .f32⟩
  | 44 => ⟨S5000, .f32⟩
  | 45 => ⟨S_, .f32⟩
  | 46 => ⟨S5000, .f32⟩
  | 47 => ⟨S5000, .f32⟩
  | 48 => ⟨S5000, .f32⟩
  | 49 => ⟨S_, .f32⟩
  | 50 => ⟨S5000, .f32⟩
  | 51 => ⟨S5000, .f32⟩
  | 52 => ⟨S5000, .f32⟩
  | 53 => ⟨S5000x1, .f32⟩
  | 54 => ⟨S5000x1, .f32⟩
  | 55 => ⟨S5000x1, .f32⟩
  | 56 => ⟨S5000x1, .f32⟩
  | 57 => ⟨S5000x4, .f32⟩
  | 58 => ⟨S5000x1, .f32⟩
  | 59 => ⟨S5000, .f32⟩
  | 60 => ⟨S_, .f32⟩
  | 61 => ⟨S_, .f32⟩
  | 62 => ⟨S_, .f32⟩
  | 63 => ⟨S5000, .f32⟩
  | 64 => ⟨S5000, .f32⟩
  | 65 => ⟨S_, .f32⟩
  | 66 => ⟨S5000, .f32⟩
  | 67 => ⟨S5000, .f32⟩
  | 68 => ⟨S5000x1, .f32⟩
  | 69 => ⟨S5000, .f32⟩
  | 70 => ⟨S_, .f32⟩
  | 71 => ⟨S_, .f32⟩
  | 72 => ⟨S_, .f32⟩
  | 73 => ⟨S5000, .f32⟩
  | 74 => ⟨S5000, .f32⟩
  | 75 => ⟨S_, .f32⟩
  | 76 => ⟨S5000, .f32⟩
  | 77 => ⟨S5000, .f32⟩
  | 78 => ⟨S5000x1, .f32⟩
  | 79 => ⟨S5000, .f32⟩
  | 80 => ⟨S_, .f32⟩
  | 81 => ⟨S_, .f32⟩
  | 82 => ⟨S_, .f32⟩
  | 83 => ⟨S5000, .f32⟩
  | 84 => ⟨S5000, .f32⟩
  | 85 => ⟨S_, .f32⟩
  | 86 => ⟨S5000, .f32⟩
  | 87 => ⟨S5000, .f32⟩
  | 88 => ⟨S5000x1, .f32⟩
  | 89 => ⟨S5000, .f32⟩
  | 90 => ⟨S_, .f32⟩
  | 91 => ⟨S_, .f32⟩
  | 92 => ⟨S_, .f32⟩
  | 93 => ⟨S5000, .f32⟩
  | 94 => ⟨S5000, .f32⟩
  | 95 => ⟨S_, .f32⟩
  | 96 => ⟨S5000, .f32⟩
  | 97 => ⟨S5000, .f32⟩
  | 98 => ⟨S5000x1, .f32⟩
  | 99 => ⟨S5000x1, .f32⟩
  | 100 => ⟨S5000x1, .f32⟩
  | 101 => ⟨S5000x1, .f32⟩
  | 102 => ⟨S5000x4, .f32⟩
  | 103 => ⟨S1000, .f32⟩
  | 104 => ⟨S1000, .i32⟩
  | 105 => ⟨S_, .i32⟩
  | 106 => ⟨S1000, .i32⟩
  | 107 => ⟨S1000, .i1⟩
  | 108 => ⟨S_, .i32⟩
  | 109 => ⟨S1000, .i32⟩
  | 110 => ⟨S1000, .i32⟩
  | 111 => ⟨S1000, .i32⟩
  | 112 => ⟨S1000x1, .i32⟩
  | 113 => ⟨S1000x4, .f32⟩
  | 114 => ⟨S1000x1, .f32⟩
  | 115 => ⟨S1000, .f32⟩
  | 116 => ⟨S1000x1, .f32⟩
  | 117 => ⟨S1000, .f32⟩
  | 118 => ⟨S1000x1, .f32⟩
  | 119 => ⟨S1000, .f32⟩
  | 120 => ⟨S1000x1, .f32⟩
  | 121 => ⟨S1000, .f32⟩
  | 122 => ⟨S1000, .f32⟩
  | 123 => ⟨S_, .f32⟩
  | 124 => ⟨S1000, .f32⟩
  | 125 => ⟨S1000, .f32⟩
  | 126 => ⟨S1000, .f32⟩
  | 127 => ⟨S_, .f32⟩
  | _ => ⟨S5000x4, .f32⟩

abbrev hbmTy0_1 (i : Nat) : BufTy := match i % 128 with
  | 0 => ⟨S1000, .f32⟩
  | 1 => ⟨S1000, .f32⟩
  | 2 => ⟨S1000, .f32⟩
  | 3 => ⟨S1000x1, .f32⟩
  | 4 => ⟨S1x1000, .f32⟩
  | 5 => ⟨S1000x1000, .f32⟩
  | 6 => ⟨S1000x1000, .f32⟩
  | 7 => ⟨S1000x1000, .f32⟩
  | 8 => ⟨S1000x1, .f32⟩
  | 9 => ⟨S1x1000, .f32⟩
  | 10 => ⟨S1000x1000, .f32⟩
  | 11 => ⟨S1000x1000, .f32⟩
  | 12 => ⟨S1000x1000, .f32⟩
  | 13 => ⟨S1000x1, .f32⟩
  | 14 => ⟨S1x1000, .f32⟩
  | 15 => ⟨S1000x1000, .f32⟩
  | 16 => ⟨S1000x1000, .f32⟩
  | 17 => ⟨S1000x1000, .f32⟩
  | 18 => ⟨S1000x1, .f32⟩
  | 19 => ⟨S1x1000, .f32⟩
  | 20 => ⟨S1000x1000, .f32⟩
  | 21 => ⟨S1000x1000, .f32⟩
  | 22 => ⟨S1000x1000, .f32⟩
  | 23 => ⟨S1000x1000, .f32⟩
  | 24 => ⟨S_, .f32⟩
  | 25 => ⟨S1000x1000, .f32⟩
  | 26 => ⟨S1000x1000, .f32⟩
  | 27 => ⟨S1000x1000, .f32⟩
  | 28 => ⟨S_, .f32⟩
  | 29 => ⟨S1000x1000, .f32⟩
  | 30 => ⟨S1000x1000, .f32⟩
  | 31 => ⟨S1000x1000, .f32⟩
  | 32 => ⟨S1000x1, .f32⟩
  | 33 => ⟨S1x1000, .f32⟩
  | 34 => ⟨S1000x1000, .f32⟩
  | 35 => ⟨S1000x1000, .f32⟩
  | 36 => ⟨S1000x1000, .f32⟩
  | 37 => ⟨S1000x1000, .f32⟩
  | 38 => ⟨S_, .f32⟩
  | 39 => ⟨S1000x1000, .f32⟩
  | 40 => ⟨S1000x1000, .f32⟩
  | 41 => ⟨S1000x1000, .f32⟩
  | 42 => ⟨S1000, .i32⟩
  | 43 => ⟨S_, .i1⟩
  | 44 => ⟨S1000, .i1⟩
  | 45 => ⟨S_, .i32⟩
  | 46 => ⟨S_, .i32⟩
  | 47 => ⟨S1000x1000, .f32⟩
  | 48 => ⟨S1000, .i32⟩
  | 49 => ⟨S_, .i32⟩
  | 50 => ⟨S_, .i32⟩
  | 51 => ⟨S1000, .i1⟩
  | 52 => ⟨S_, .i32⟩
  | 53 => ⟨S_, .i1⟩
  | 54 => ⟨S_, .i32⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S_, .i32⟩
  | 68 => ⟨S_, .i32⟩
  | 69 => ⟨S_, .i32⟩
  | 70 => ⟨S1x1000, .f32⟩
  | 71 => ⟨S1000, .f32⟩
  | 72 => ⟨S_, .f32⟩
  | 73 => ⟨S1000, .f32⟩
  | 74 => ⟨S1000, .i1⟩
  | 75 => ⟨S_, .i32⟩
  | 76 => ⟨S_, .i1⟩
  | 77 => ⟨S_, .i32⟩
  | 78 => ⟨S_, .i32⟩
  | 79 => ⟨S_, .i32⟩
  | 80 => ⟨S_, .i32⟩
  | 81 => ⟨S1, .i1⟩
  | 82 => ⟨S_, .i1⟩
  | 83 => ⟨S1000, .i1⟩
  | 84 => ⟨S1000, .i1⟩
  | 85 => ⟨S_, .i32⟩
  | 86 => ⟨S1000, .i32⟩
  | 87 => ⟨S1000, .i1⟩
  | 88 => ⟨S1000, .i1⟩
  | 89 => ⟨S1000, .i1⟩
  | 90 => ⟨S1000, .i1⟩
  | 91 => ⟨S_, .i32⟩
  | 92 => ⟨S_, .i32⟩
  | 93 => ⟨S1000, .f32⟩
  | 94 => ⟨S1000x1, .f32⟩
  | 95 => ⟨S1000x4, .f32⟩
  | 96 => ⟨S1000x4, .f32⟩
  | 97 => ⟨S1000, .f32⟩
  | 98 => ⟨S1000x1, .f32⟩
  | 99 => ⟨S1000x5, .f32⟩
  | _ => ⟨S5000x4, .f32⟩

abbrev hbmTy (i : Nat) : BufTy := match i / 128 with
  | 0 => hbmTy0_0 i
  | 1 => hbmTy0_1 i
  | _ => ⟨S5000x4, .f32⟩

abbrev bufTy : (tb : Table) → Fin (tcTables nBuf tb) → BufTy
  | .hbm, ⟨i, _⟩ => hbmTy i
  | _, _ => ⟨S5000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst_1 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_3 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_4 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_cst_5 : Ref sig .tc := ⟨.hbm, 60, rfl⟩
abbrev main_cst_6 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_7 : Ref sig .tc := ⟨.hbm, 70, rfl⟩
abbrev main_cst_8 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_9 : Ref sig .tc := ⟨.hbm, 80, rfl⟩
abbrev main_cst_10 : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_11 : Ref sig .tc := ⟨.hbm, 90, rfl⟩
abbrev main_cst_12 : Ref sig .tc := ⟨.hbm, 91, rfl⟩
abbrev main_call3_v0 : Ref sig .tc := ⟨.hbm, 92, rfl⟩
abbrev main_call3_v1 : Ref sig .tc := ⟨.hbm, 93, rfl⟩
abbrev main_call3_v2 : Ref sig .tc := ⟨.hbm, 94, rfl⟩
abbrev main_call3_v3 : Ref sig .tc := ⟨.hbm, 95, rfl⟩
abbrev main_call3_v4 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_values : Ref sig .tc := ⟨.hbm, 103, rfl⟩
abbrev main_indices : Ref sig .tc := ⟨.hbm, 104, rfl⟩
abbrev main_c : Ref sig .tc := ⟨.hbm, 105, rfl⟩
abbrev main_v66 : Ref sig .tc := ⟨.hbm, 106, rfl⟩
abbrev main_v67 : Ref sig .tc := ⟨.hbm, 107, rfl⟩
abbrev main_c_13 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_cst_14 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_cst_15 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_cst_16 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_cst_17 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_cst_18 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_c_19 : Ref sig .tc := ⟨.hbm, 171, rfl⟩
abbrev main_v125 : Ref sig .tc := ⟨.hbm, 172, rfl⟩
abbrev main_c_20 : Ref sig .tc := ⟨.hbm, 173, rfl⟩
abbrev main_c_21 : Ref sig .tc := ⟨.hbm, 174, rfl⟩
abbrev main_v126_0 : Ref sig .tc := ⟨.hbm, 175, rfl⟩
abbrev main_v126_1 : Ref sig .tc := ⟨.hbm, 176, rfl⟩
abbrev main_v126_2 : Ref sig .tc := ⟨.hbm, 177, rfl⟩
abbrev main_v126_3 : Ref sig .tc := ⟨.hbm, 178, rfl⟩
abbrev main_v126_4 : Ref sig .tc := ⟨.hbm, 179, rfl⟩
abbrev main_while0c_c_26 : Ref sig .tc := ⟨.hbm, 180, rfl⟩
abbrev main_while0c_v134 : Ref sig .tc := ⟨.hbm, 181, rfl⟩
abbrev main_while0b_c_26 : Ref sig .tc := ⟨.hbm, 182, rfl⟩
abbrev main_while0b_v134 : Ref sig .tc := ⟨.hbm, 183, rfl⟩
abbrev main_while0b_v135 : Ref sig .tc := ⟨.hbm, 184, rfl⟩
abbrev main_while0b_c_27 : Ref sig .tc := ⟨.hbm, 185, rfl⟩
abbrev main_while0b_v136 : Ref sig .tc := ⟨.hbm, 186, rfl⟩
abbrev main_while0b_c_28 : Ref sig .tc := ⟨.hbm, 187, rfl⟩
abbrev main_while0b_v137 : Ref sig .tc := ⟨.hbm, 188, rfl⟩
abbrev main_while0b_v138 : Ref sig .tc := ⟨.hbm, 189, rfl⟩
abbrev main_while0b_c_29 : Ref sig .tc := ⟨.hbm, 190, rfl⟩
abbrev main_while0b_c_30 : Ref sig .tc := ⟨.hbm, 191, rfl⟩
abbrev main_while0b_v139 : Ref sig .tc := ⟨.hbm, 192, rfl⟩
abbrev main_while0b_c_31 : Ref sig .tc := ⟨.hbm, 193, rfl⟩
abbrev main_while0b_c_32 : Ref sig .tc := ⟨.hbm, 194, rfl⟩
abbrev main_while0b_v140 : Ref sig .tc := ⟨.hbm, 195, rfl⟩
abbrev main_while0b_c_33 : Ref sig .tc := ⟨.hbm, 196, rfl⟩
abbrev main_while0b_v141 : Ref sig .tc := ⟨.hbm, 197, rfl⟩
abbrev main_while0b_v142 : Ref sig .tc := ⟨.hbm, 198, rfl⟩
abbrev main_while0b_v143 : Ref sig .tc := ⟨.hbm, 199, rfl⟩
abbrev main_while0b_cst_34 : Ref sig .tc := ⟨.hbm, 200, rfl⟩
abbrev main_while0b_v144 : Ref sig .tc := ⟨.hbm, 201, rfl⟩
abbrev main_while0b_v145 : Ref sig .tc := ⟨.hbm, 202, rfl⟩
abbrev main_while0b_c_35 : Ref sig .tc := ⟨.hbm, 203, rfl⟩
abbrev main_while0b_v146 : Ref sig .tc := ⟨.hbm, 204, rfl⟩
abbrev main_while0b_v147 : Ref sig .tc := ⟨.hbm, 205, rfl⟩
abbrev main_while0b_c_36 : Ref sig .tc := ⟨.hbm, 206, rfl⟩
abbrev main_while0b_v148 : Ref sig .tc := ⟨.hbm, 207, rfl⟩
abbrev main_while0b_v149 : Ref sig .tc := ⟨.hbm, 208, rfl⟩
abbrev main_while0b_v150 : Ref sig .tc := ⟨.hbm, 209, rfl⟩
abbrev main_while0b_v151 : Ref sig .tc := ⟨.hbm, 210, rfl⟩
abbrev main_while0b_v152 : Ref sig .tc := ⟨.hbm, 211, rfl⟩
abbrev main_while0b_v153 : Ref sig .tc := ⟨.hbm, 212, rfl⟩
abbrev main_while0b_v154 : Ref sig .tc := ⟨.hbm, 213, rfl⟩
abbrev main_while0b_v155 : Ref sig .tc := ⟨.hbm, 214, rfl⟩
abbrev main_while0b_v156 : Ref sig .tc := ⟨.hbm, 215, rfl⟩
abbrev main_while0b_v157 : Ref sig .tc := ⟨.hbm, 216, rfl⟩
abbrev main_while0b_v158 : Ref sig .tc := ⟨.hbm, 217, rfl⟩
abbrev main_while0b_v159 : Ref sig .tc := ⟨.hbm, 218, rfl⟩
abbrev main_while0b_c_37 : Ref sig .tc := ⟨.hbm, 219, rfl⟩
abbrev main_while0b_v160 : Ref sig .tc := ⟨.hbm, 220, rfl⟩
abbrev main_v127 : Ref sig .tc := ⟨.hbm, 221, rfl⟩
abbrev main_v128 : Ref sig .tc := ⟨.hbm, 222, rfl⟩
abbrev main_v129 : Ref sig .tc := ⟨.hbm, 223, rfl⟩
abbrev main_v130 : Ref sig .tc := ⟨.hbm, 224, rfl⟩
abbrev main_v131 : Ref sig .tc := ⟨.hbm, 225, rfl⟩
abbrev main_v132 : Ref sig .tc := ⟨.hbm, 226, rfl⟩
abbrev main_v133 : Ref sig .tc := ⟨.hbm, 227, rfl⟩

abbrev nD : Nat := 1
abbrev τ : Topo := Topo.v7x

variable {F : FTy → Type} [FloatOps F]

abbrev main_while0_count : Scf.Loop 32 := ⟨0#32, 1000#32, 1#32⟩
-- ==== Proof.RefRun.lean ====
/- The reference program's run: its arguments end unchanged, and a buffer the loop does not write has after the loop
   what it had before it. -/
module

public import proofs.«01_k».proof.Defs
public import proofs.«01_k».proof.Proof.Gen.ReferenceIdeal
public import proofs.«01_k».proof.Proof.Gen.ReferenceIdeal.Run
public import Idealize.ShloMosaic.Adequacy
public import Idealize.ShloMosaic.Init

@[expose] public section

set_option maxRecDepth 100000

noncomputable section

namespace Cert.Nms.Ref

open Idealize.ShloMosaic Idealize.ShloMosaic.TcCoe
open Idealize.SL.Sem
open Idealize.ShloMosaic.StableHlo Idealize.ShloMosaic.HostLoop
open Cert.ReferenceIdeal Cert.ReferenceIdeal.Gen Cert.ReferenceIdeal.Value

variable {F : FTy → Type} [FloatOps F]
variable (m : (ℓ : Loc nD τ sig) → Buf (Elt F) ℓ)

/-- A buffer neither the condition nor the body writes keeps its contents through any number of trips. -/
theorem atK_keep (c : Dev nD) (r : Ref sig .tc) (hc : r ∉ condOps_W) (hb : r ∉ while0Ops0_W) :
    ∀ k, atK m k c (Proc.devRef .tc r) = entryContents preI m c (Proc.devRef .tc r)
  | 0 => rfl
  | k + 1 => by
    show after while0Ops0 (after condOps (atK m k c)) (Proc.devRef .tc r) = _
    rw [after_of_writes_sub while0Ops0 _ while0Ops0_writes hb, after_of_writes_sub condOps _ condOps_writes hc]
    exact atK_keep c r hc hb k

/-- The buffers the operations after the loop write. -/
abbrev tail_W : List (Ref sig .tc) := [main_v127, main_v128, main_v129, main_v130, main_v131, main_v132, main_v133]

/-- The operations after the loop write no other buffer. -/
theorem tail_keep (V : Valuation τ sig (Elt F)) (r : Ref sig .tc) (h : r ∉ tail_W) :
    afterL postI V (Proc.devRef .tc r) = V (Proc.devRef .tc r) := by
  simp only [afterL_cons, afterL_nil]
  exact after_unwritten tail_W rfl h V

/-- A buffer no operation of the program writes ends at its launch contents. -/
theorem final_keep (c : Dev nD) (r : Ref sig .tc) (hc : r ∉ condOps_W) (hb : r ∉ while0Ops0_W) (ht : r ∉ tail_W)
    (h0 : r ∉ hostOps0_W) (h1 : r ∉ hostOps0_1_W) (h2 : r ∉ hostOps0_2_W) (h3 : r ∉ hostOps0_3_W) (h4 : r ∉ hostOps0_4_W)
    (h5 : r ∉ hostOps0_5_W) (h6 : r ∉ hostOps0_6_W) (h7 : r ∉ hostOps0_7_W) (h8 : r ∉ hostOps0_8_W) :
    finalContents condOps preI bodyI postI 1000 m c (Proc.devRef .tc r) = launchContents m c (Proc.devRef .tc r) := by
  unfold finalContents
  rw [tail_keep _ r ht, after_of_writes_sub condOps _ condOps_writes hc]
  refine (atK_keep m c r hc hb 1000).trans ?_
  simp only [entryContents, afterL_cons, afterL_nil]
  rw [after_of_writes_sub hostOps0_8 _ hostOps0_8_writes h8, after_of_writes_sub hostOps0_7 _ hostOps0_7_writes h7,
    after_of_writes_sub hostOps0_6 _ hostOps0_6_writes h6, after_of_writes_sub hostOps0_5 _ hostOps0_5_writes h5,
    after_of_writes_sub hostOps0_4 _ hostOps0_4_writes h4, after_of_writes_sub hostOps0_3 _ hostOps0_3_writes h3,
    after_of_writes_sub hostOps0_2 _ hostOps0_2_writes h2, after_of_writes_sub hostOps0_1 _ hostOps0_1_writes h1,
    after_of_writes_sub hostOps0 _ hostOps0_writes h0]

/-- The three arguments end at their launch contents. -/
theorem args_keep (c : Dev nD) :
    finalContents condOps preI bodyI postI 1000 m c (Proc.devRef .tc main_arg0) = m ((c.tc : Thread nD τ).loc main_arg0)
    ∧ finalContents condOps preI bodyI postI 1000 m c (Proc.devRef .tc main_arg1) = m ((c.tc : Thread nD τ).loc main_arg1)
    ∧ finalContents condOps preI bodyI postI 1000 m c (Proc.devRef .tc main_arg2) = m ((c.tc : Thread nD τ).loc main_arg2) := by
  refine ⟨?_, ?_, ?_⟩ <;>
    exact final_keep m c _ (by decide +kernel) (by decide +kernel) (by decide +kernel) (by decide +kernel) (by decide +kernel)
      (by decide +kernel) (by decide +kernel) (by decide +kernel) (by decide +kernel) (by decide +kernel) (by decide +kernel)
      (by decide +kernel)

/-- The reference runs, its arguments end unchanged, and every counter ends at zero: it declares no semaphore. -/
theorem frame : Cert.quiescent_ReferenceIdeal := fun m ρ _ =>
  (θ_run Cert.ReferenceIdeal.defs _ _).mono (fun r h => ⟨fun c =>
      ⟨(h c main_arg0 rfl).trans (args_keep m c).1, (h c main_arg1 rfl).trans (args_keep m c).2.1,
        (h c main_arg2 rfl).trans (args_keep m c).2.2⟩,
      Idealize.ShloMosaic.sem_eq_zero_of_no_sems (by decide) r.2⟩)
    (run_fold (F := Ideal) m ρ)

end Cert.Nms.Ref

end
-- ==== Proof.KernelFn.lean ====
/- What one run of the kernel body computes, as plain functions of the three blocks it reads: the predicted boxes, the
   ranks, the two selections, the suppression matrix in blocks of rows, and the passes over it. -/
module

public import proofs.«01_k».proof.Proof.Gen.KernelIdeal.Frame
public import Idealize.ShloMosaic.Lib.Pipeline.Value
public import Idealize.ShloMosaic.Lib.ValueIdx
public import Idealize.ShloMosaic.Init

@[expose] public section

set_option maxRecDepth 100000

noncomputable section

namespace Cert.Nms.Ker

open Idealize.ShloMosaic Idealize.ShloMosaic.TcCoe Idealize.ShloMosaic.Tactic
open Idealize.SL.Sem
open Cert.KernelIdeal Cert.KernelIdeal.Gen

/-- An array of idealized `f32`s. -/
abbrev V (s : Shape) := FVec Ideal s .f32

/-- The number `1` as the program writes it. -/
abbrev one : Ideal .f32 := Scalar.ofBits .f32 0x3F800000#32
/-- The number `0` as the program writes it. -/
abbrev zero : Ideal .f32 := Scalar.ofBits .f32 0x00000000#32

/-! ## Ranks -/

/-- Rows `32 k` to `32 k + 31` of the column of scores. -/
def rows32 (x1 : Vec Ideal S5120x1 .f32) (k : Fin k0_t1_loop.trips) : Vec Ideal S32x1 .f32 :=
  View.ld x1 (Rect.unit (k0_off1 k) S32x1.size (k0_off1_inb k))

/-- The ranks accumulated over the first `n` blocks of 32 rows. -/
def rankAt (x0 : Vec Ideal S1x5120 .f32) (x1 : Vec Ideal S5120x1 .f32) : ℕ → V S1x5120
  | 0 => k0_pay86
  | n + 1 => if h : n < k0_t1_loop.trips then k0_pay87 (k0_pay72 x0) ⟨n, h⟩ (rankAt x0 x1 n) (rows32 x1 ⟨n, h⟩)
      else rankAt x0 x1 n

/-- The rank loop of the run is this accumulation. -/
theorem rank_loop (𝒱 : Variants) (c : Dev nD) (bd : Option 𝒱.V) (arg0 : Memref sig .tc .vmem S1x5120 .f32) (harg0 : arg0.IsWhole)
    (arg1 : Memref sig .tc .vmem S5120x1 .f32) (harg1 : arg1.IsWhole) (arg2 : Memref sig .tc .vmem S8x5120 .f32) (harg2 : arg2.IsWhole)
    (arg3 : Memref sig .tc .vmem S8x1024 .f32) (harg3 : arg3.IsWhole) (arg4 : Memref sig .tc .vmem S1024x8x128 .f32) (harg4 : arg4.IsWhole)
    (x0 : Vec Ideal S1x5120 .f32) (v23 v27 v34 v41 v44 : V S1x5120) (c1 c2 : Ideal .f32) (x1 : Vec Ideal S5120x1 .f32) :
    ∀ n, n ≤ k0_t1_loop.trips →
      st_k0_t1 (F := Ideal) 𝒱 c bd arg0 harg0 arg1 harg1 arg2 harg2 arg3 harg3 arg4 harg4 (k0_pay72 x0) v23 v27 v34 v41 v44 c1 c2
        (harg1.unread x1) k0_pay86 n = rankAt x0 x1 n
  | 0, _ => st_k0_t1_zero ..
  | n + 1, hn => by
    have h : n < k0_t1_loop.trips := hn
    rw [st_k0_t1_succ 𝒱 c bd arg0 harg0 arg1 harg1 arg2 harg2 arg3 harg3 arg4 harg4 (k0_pay72 x0) v23 v27 v34 v41 v44 c1 c2
      (harg1.unread x1) k0_pay86 ⟨n, h⟩, rank_loop 𝒱 c bd arg0 harg0 arg1 harg1 arg2 harg2 arg3 harg3 arg4 harg4 x0 v23 v27 v34 v41 v44 c1 c2 x1 n
      (by omega), rankAt, dif_pos h]
    show (trip_k0_t1 𝒱 c bd arg0 harg0 arg1 harg1 arg2 harg2 arg3 harg3 arg4 harg4 (k0_pay72 x0) v23 v27 v34 v41 v44 c1 c2 (harg1.unread x1) ⟨n, h⟩).1 _ = _
    unfold trip_k0_t1
    dsimp only
    sl_unfold_words
    simp only [View.readAt_eq_ld, harg1.read_unread]
    rfl

/-! ## Selection by one-hot products -/

/-- Which of the 512 columns from column `o` have which of the ranks `0 … 1023`: 1 where they meet, 0 elsewhere. -/
def oneHot (o : ℕ) (h : S1x5120.Slices ![0, o] S1x512) (rk : V S1x5120) : V S1024x512 :=
  select (cmpf .oeq (broadcastTo S1024x512 (extractStridedSlice S1x512 ![0, o] rk h) broadcasts_S1x512_S1024x512)
      (broadcastTo S1024x512 (sitofp .f32 (iota .tc S1024x1 32 [0] iota_S1024x1_d0_w32)) broadcasts_S1024x1_S1024x512))
    (broadcast S1024x512 one) (broadcast S1024x512 zero)

/-- The columns from column `o` sent to the places of their ranks, laid out by rows. -/
def tileR (o : ℕ) (h : S8x5120.Slices ![0, o] S8x512) (h' : S1x5120.Slices ![0, o] S1x512) (p : V S8x5120) (rk : V S1x5120) : V S8x1024 :=
  matmul dot_S8x512_S1024x512_S8x1024_1_1_0_0_n_n (some .fp32) (extractStridedSlice S8x512 ![0, o] p h) (oneHot o h' rk)
    (constant S8x1024 .f32 0x00000000#32)

/-- The columns from column `o` sent to the places of their ranks, laid out by columns. -/
def tileC (o : ℕ) (h : S8x5120.Slices ![0, o] S8x512) (h' : S1x5120.Slices ![0, o] S1x512) (p : V S8x5120) (rk : V S1x5120) : V S1024x8 :=
  matmul dot_S1024x512_S8x512_S1024x8_1_1_0_0_n_n (some .fp32) (oneHot o h' rk) (extractStridedSlice S8x512 ![0, o] p h)
    (constant S1024x8 .f32 0x00000000#32)

/-- The best 1024 columns in the order of their ranks, laid out by rows: the ten products added from the left. -/
def selR (p : V S8x5120) (rk : V S1x5120) : V S8x1024 :=
  addf (addf (addf (addf (addf (addf (addf (addf (addf (addf (broadcast S8x1024 zero)
    (tileR 0 slices_S8x5120_o0_0_S8x512 slices_S1x5120_o0_0_S1x512 p rk))
    (tileR 512 slices_S8x5120_o0_512_S8x512 slices_S1x5120_o0_512_S1x512 p rk))
    (tileR 1024 slices_S8x5120_o0_1024_S8x512 slices_S1x5120_o0_1024_S1x512 p rk))
    (tileR 1536 slices_S8x5120_o0_1536_S8x512 slices_S1x5120_o0_1536_S1x512 p rk))
    (tileR 2048 slices_S8x5120_o0_2048_S8x512 slices_S1x5120_o0_2048_S1x512 p rk))
    (tileR 2560 slices_S8x5120_o0_2560_S8x512 slices_S1x5120_o0_2560_S1x512 p rk))
    (tileR 3072 slices_S8x5120_o0_3072_S8x512 slices_S1x5120_o0_3072_S1x512 p rk))
    (tileR 3584 slices_S8x5120_o0_3584_S8x512 slices_S1x5120_o0_3584_S1x512 p rk))
    (tileR 4096 slices_S8x5120_o0_4096_S8x512 slices_S1x5120_o0_4096_S1x512 p rk))
    (tileR 4608 slices_S8x5120_o0_4608_S8x512 slices_S1x5120_o0_4608_S1x512 p rk)

/-- The best 1024 columns in the order of their ranks, laid out by columns. -/
def selC (p : V S8x5120) (rk : V S1x5120) : V S1024x8 :=
  addf (addf (addf (addf (addf (addf (addf (addf (addf (addf (broadcast S1024x8 zero)
    (tileC 0 slices_S8x5120_o0_0_S8x512 slices_S1x5120_o0_0_S1x512 p rk))
    (tileC 512 slices_S8x5120_o0_512_S8x512 slices_S1x5120_o0_512_S1x512 p rk))
    (tileC 1024 slices_S8x5120_o0_1024_S8x512 slices_S1x5120_o0_1024_S1x512 p rk))
    (tileC 1536 slices_S8x5120_o0_1536_S8x512 slices_S1x5120_o0_1536_S1x512 p rk))
    (tileC 2048 slices_S8x5120_o0_2048_S8x512 slices_S1x5120_o0_2048_S1x512 p rk))
    (tileC 2560 slices_S8x5120_o0_2560_S8x512 slices_S1x5120_o0_2560_S1x512 p rk))
    (tileC 3072 slices_S8x5120_o0_3072_S8x512 slices_S1x5120_o0_3072_S1x512 p rk))
    (tileC 3584 slices_S8x5120_o0_3584_S8x512 slices_S1x5120_o0_3584_S1x512 p rk))
    (tileC 4096 slices_S8x5120_o0_4096_S8x512 slices_S1x5120_o0_4096_S1x512 p rk))
    (tileC 4608 slices_S8x5120_o0_4608_S8x512 slices_S1x5120_o0_4608_S1x512 p rk)

/-- Row `f` of a selection, its 1024 entries folded into 8 rows of 128. -/
def fold (f : ℕ) (h : S8x1024.Slices ![f, 0] S1x1024) (s : V S8x1024) : V S1x8x128 :=
  let r := extractStridedSlice S1x1024 ![f, 0] s h
  shapeCast S1x8x128 (concatenate S8x128 0
    [⟨S1x128, extractStridedSlice S1x128 ![0, 0] r slices_S1x1024_o0_0_S1x128⟩,
     ⟨S1x128, extractStridedSlice S1x128 ![0, 128] r slices_S1x1024_o0_128_S1x128⟩,
     ⟨S1x128, extractStridedSlice S1x128 ![0, 256] r slices_S1x1024_o0_256_S1x128⟩,
     ⟨S1x128, extractStridedSlice S1x128 ![0, 384] r slices_S1x1024_o0_384_S1x128⟩,
     ⟨S1x128, extractStridedSlice S1x128 ![0, 512] r slices_S1x1024_o0_512_S1x128⟩,
     ⟨S1x128, extractStridedSlice S1x128 ![0, 640] r slices_S1x1024_o0_640_S1x128⟩,
     ⟨S1x128, extractStridedSlice S1x128 ![0, 768] r slices_S1x1024_o0_768_S1x128⟩,
     ⟨S1x128, extractStridedSlice S1x128 ![0, 896] r slices_S1x1024_o0_896_S1x128⟩]
    concatenates_S1x128_S1x128_S1x128_S1x128_S1x128_S1x128_S1x128_S1x128_S8x128_d0) shapeCasts_S8x128_S1x8x128

/-! ## The suppression matrix -/

/-- 128 entries of column `f` of a selection, from row `o`. -/
def col (o f : ℕ) (h : S1024x8.Slices ![o, f] S128x1) (s : V S1024x8) : V S128x1x1 :=
  shapeCast S128x1x1 (extractStridedSlice S128x1 ![o, f] s h) shapeCasts_S128x1_S128x1x1

/-- The areas of boxes given by their corners: the two sides, each at least 0, multiplied. -/
def areas {s : Shape} (a0 a1 a2 a3 : V s) : V s :=
  mulf (maximumf (subf a2 a0) (broadcast s zero)) (maximumf (subf a3 a1) (broadcast s zero))

/-- A column of 128 numbers against every position. -/
abbrev bc (a : V S128x1x1) : V S128x8x128 := broadcastTo S128x8x128 a broadcasts_S128x1x1_S128x8x128
/-- A folded row of 1024 numbers for each of 128 rows. -/
abbrev br (a : V S1x8x128) : V S128x8x128 := broadcastTo S128x8x128 a broadcasts_S1x8x128_S128x8x128

/-- The areas of the intersections of 128 boxes with all boxes. -/
def inter (c0 c1 c2 c3 : V S128x1x1) (r0 r1 r2 r3 : V S1x8x128) : V S128x8x128 :=
  mulf (maximumf (subf (minimumf (bc c2) (br r2)) (maximumf (bc c0) (br r0))) (broadcast S128x8x128 zero))
    (maximumf (subf (minimumf (bc c3) (br r3)) (maximumf (bc c1) (br r1))) (broadcast S128x8x128 zero))

/-- 128 rows of the suppression matrix: 1 where the boxes overlap by more than a half and the column comes after the row. -/
def blk (base : BitVec 32) (c0 c1 c2 c3 : V S128x1x1) (r0 r1 r2 r3 : V S1x8x128) : V S128x8x128 :=
  shapeCast S128x8x128 (select (andi (cmpf .ogt
      (divf (inter c0 c1 c2 c3 r0 r1 r2 r3)
        (addf (subf (addf (bc (areas c0 c1 c2 c3)) (br (areas r0 r1 r2 r3))) (inter c0 c1 c2 c3 r0 r1 r2 r3))
          (broadcast S128x8x128 (Scalar.ofBits .f32 0x358637BD#32))))
      (broadcast S128x8x128 (Scalar.ofBits .f32 0x3F000000#32)))
    (cmpi .sgt (broadcastTo S128x8x128 k0_pay128 broadcasts_S1x8x128_S128x8x128)
      (broadcastTo S128x8x128 (addi (iota .tc S128x1x1 32 [0] iota_S128x1x1_d0_w32) (broadcast S128x1x1 base)) broadcasts_S128x1x1_S128x8x128)))
    (broadcast S128x8x128 one) (broadcast S128x8x128 zero)) shapeCasts_S128x8x128_S128x8x128

/-- The eight blocks of rows as they are stored, the last one first. -/
def pieces (sc : V S1024x8) (r0 r1 r2 r3 : V S1x8x128) : List (View.Piece (Elt Ideal) S1024x8x128 .f32) :=
  [⟨Rect.unit ![896, 0, 0] S128x8x128.size inb_S1024x8x128_S128x8x128_896_0_0,
      blk 896#32 (col 896 0 slices_S1024x8_o896_0_S128x1 sc) (col 896 1 slices_S1024x8_o896_1_S128x1 sc) (col 896 2 slices_S1024x8_o896_2_S128x1 sc) (col 896 3 slices_S1024x8_o896_3_S128x1 sc) r0 r1 r2 r3⟩,
   ⟨Rect.unit ![768, 0, 0] S128x8x128.size inb_S1024x8x128_S128x8x128_768_0_0,
      blk 768#32 (col 768 0 slices_S1024x8_o768_0_S128x1 sc) (col 768 1 slices_S1024x8_o768_1_S128x1 sc) (col 768 2 slices_S1024x8_o768_2_S128x1 sc) (col 768 3 slices_S1024x8_o768_3_S128x1 sc) r0 r1 r2 r3⟩,
   ⟨Rect.unit ![640, 0, 0] S128x8x128.size inb_S1024x8x128_S128x8x128_640_0_0,
      blk 640#32 (col 640 0 slices_S1024x8_o640_0_S128x1 sc) (col 640 1 slices_S1024x8_o640_1_S128x1 sc) (col 640 2 slices_S1024x8_o640_2_S128x1 sc) (col 640 3 slices_S1024x8_o640_3_S128x1 sc) r0 r1 r2 r3⟩,
   ⟨Rect.unit ![512, 0, 0] S128x8x128.size inb_S1024x8x128_S128x8x128_512_0_0,
      blk 512#32 (col 512 0 slices_S1024x8_o512_0_S128x1 sc) (col 512 1 slices_S1024x8_o512_1_S128x1 sc) (col 512 2 slices_S1024x8_o512_2_S128x1 sc) (col 512 3 slices_S1024x8_o512_3_S128x1 sc) r0 r1 r2 r3⟩,
   ⟨Rect.unit ![384, 0, 0] S128x8x128.size inb_S1024x8x128_S128x8x128_384_0_0,
      blk 384#32 (col 384 0 slices_S1024x8_o384_0_S128x1 sc) (col 384 1 slices_S1024x8_o384_1_S128x1 sc) (col 384 2 slices_S1024x8_o384_2_S128x1 sc) (col 384 3 slices_S1024x8_o384_3_S128x1 sc) r0 r1 r2 r3⟩,
   ⟨Rect.unit ![256, 0, 0] S128x8x128.size inb_S1024x8x128_S128x8x128_256_0_0,
      blk 256#32 (col 256 0 slices_S1024x8_o256_0_S128x1 sc) (col 256 1 slices_S1024x8_o256_1_S128x1 sc) (col 256 2 slices_S1024x8_o256_2_S128x1 sc) (col 256 3 slices_S1024x8_o256_3_S128x1 sc) r0 r1 r2 r3⟩,
   ⟨Rect.unit ![128, 0, 0] S128x8x128.size inb_S1024x8x128_S128x8x128_128_0_0,
      blk 128#32 (col 128 0 slices_S1024x8_o128_0_S128x1 sc) (col 128 1 slices_S1024x8_o128_1_S128x1 sc) (col 128 2 slices_S1024x8_o128_2_S128x1 sc) (col 128 3 slices_S1024x8_o128_3_S128x1 sc) r0 r1 r2 r3⟩,
   ⟨Rect.unit ![0, 0, 0] S128x8x128.size inb_S1024x8x128_S128x8x128_0_0_0,
      blk 0#32 (col 0 0 slices_S1024x8_o0_0_S128x1 sc) (col 0 1 slices_S1024x8_o0_1_S128x1 sc) (col 0 2 slices_S1024x8_o0_2_S128x1 sc) (col 0 3 slices_S1024x8_o0_3_S128x1 sc) r0 r1 r2 r3⟩]

/-! ## The passes -/

/-- Position `8 k + u` among the 8 × 128 positions. -/
def mask (k : Fin k0_t2_loop.trips) (u : BitVec 32) : IVec S8x128 1 :=
  cmpi .eq (k0_pay175 k0_pay128) (broadcast S8x128 (Scalar.addi (Scalar.muli (Scf.iv 0#32 1#32 k) 8#32) u))

/-- The sum of the entries a mask holds. -/
def pick (m : IVec S8x128 1) (v : V S8x128) : V S1x1 :=
  broadcast S1x1 (extractAt ![0, 0, 0] (shapeCast S1x1x1 (multiReduction .add [1, 2] S1
    (shapeCast S1x8x128 (select m v (broadcast S8x128 zero)) shapeCasts_S8x128_S1x8x128) 0x00000000#32 reduces_S1x8x128_S1 (.inl rfl) rfl)
    shapeCasts_S1_S1x1x1) inpos_S1x1x1_p0_0_0)

/-- Row `u` of a block of eight rows of the suppression matrix. -/
def row (u : ℕ) (h : S8x8x128.Slices ![u, 0, 0] S1x8x128) (R : Vec Ideal S8x8x128 .f32) : V S8x128 :=
  shapeCast S8x128 (extractStridedSlice S1x8x128 ![u, 0, 0] R h) shapeCasts_S1x8x128_S8x128

/-- One minus the product of two numbers: 0 if both are 1. -/
def off (r k : V S1x1) : V S1x1 := subf (broadcast S1x1 one) (mulf r k)

/-- One minus a row times a number, at every position. -/
def offs (r : V S8x128) (k : V S1x1) : V S8x128 :=
  subf (broadcast S8x128 one) (mulf r (broadcastTo S8x128 k broadcasts_S1x1_S8x128))

/-- One pass: eight boxes decided one after the other, then all positions updated by the eight. -/
def pass (k : Fin k0_t2_loop.trips) (acc : V S8x128) (R : Vec Ideal S8x8x128 .f32) : V S8x128 :=
  let r0 := row 0 slices_S8x8x128_o0_0_0_S1x8x128 R
  let r1 := row 1 slices_S8x8x128_o1_0_0_S1x8x128 R
  let r2 := row 2 slices_S8x8x128_o2_0_0_S1x8x128 R
  let r3 := row 3 slices_S8x8x128_o3_0_0_S1x8x128 R
  let r4 := row 4 slices_S8x8x128_o4_0_0_S1x8x128 R
  let r5 := row 5 slices_S8x8x128_o5_0_0_S1x8x128 R
  let r6 := row 6 slices_S8x8x128_o6_0_0_S1x8x128 R
  let r7 := row 7 slices_S8x8x128_o7_0_0_S1x8x128 R
  let k0 := pick (mask k 0#32) acc
  let k1 := mulf (pick (mask k 1#32) acc) (off (pick (mask k 1#32) r0) k0)
  let k2 := mulf (mulf (pick (mask k 2#32) acc) (off (pick (mask k 2#32) r0) k0)) (off (pick (mask k 2#32) r1) k1)
  let k3 := mulf (mulf (mulf (pick (mask k 3#32) acc) (off (pick (mask k 3#32) r0) k0)) (off (pick (mask k 3#32) r1) k1)) (off (pick (mask k 3#32) r2) k2)
  let k4 := mulf (mulf (mulf (mulf (pick (mask k 4#32) acc) (off (pick (mask k 4#32) r0) k0)) (off (pick (mask k 4#32) r1) k1)) (off (pick (mask k 4#32) r2) k2))
    (off (pick (mask k 4#32) r3) k3)
  let k5 := mulf (mulf (mulf (mulf (mulf (pick (mask k 5#32) acc) (off (pick (mask k 5#32) r0) k0)) (off (pick (mask k 5#32) r1) k1)) (off (pick (mask k 5#32) r2) k2))
    (off (pick (mask k 5#32) r3) k3)) (off (pick (mask k 5#32) r4) k4)
  let k6 := mulf (mulf (mulf (mulf (mulf (mulf (pick (mask k 6#32) acc) (off (pick (mask k 6#32) r0) k0)) (off (pick (mask k 6#32) r1) k1)) (off (pick (mask k 6#32) r2) k2))
    (off (pick (mask k 6#32) r3) k3)) (off (pick (mask k 6#32) r4) k4)) (off (pick (mask k 6#32) r5) k5)
  let k7 := mulf (mulf (mulf (mulf (mulf (mulf (mulf (pick (mask k 7#32) acc) (off (pick (mask k 7#32) r0) k0)) (off (pick (mask k 7#32) r1) k1)) (off (pick (mask k 7#32) r2) k2))
    (off (pick (mask k 7#32) r3) k3)) (off (pick (mask k 7#32) r4) k4)) (off (pick (mask k 7#32) r5) k5)) (off (pick (mask k 7#32) r6) k6)
  mulf acc (mulf (mulf (mulf (mulf (mulf (mulf (mulf (offs r0 k0) (offs r1 k1)) (offs r2 k2)) (offs r3 k3)) (offs r4 k4)) (offs r5 k5)) (offs r6 k6)) (offs r7 k7))

/-- Rows `8 k` to `8 k + 7` of the suppression matrix. -/
def rows8 (S : Vec Ideal S1024x8x128 .f32) (k : Fin k0_t2_loop.trips) : Vec Ideal S8x8x128 .f32 :=
  View.ld S (Rect.unit (k0_off2 k) S8x8x128.size (k0_off2_inb k))

/-- The boxes kept after the first `n` passes. -/
def keepAt (S : Vec Ideal S1024x8x128 .f32) : ℕ → V S8x128
  | 0 => k0_pay176
  | n + 1 => if h : n < k0_t2_loop.trips then pass ⟨n, h⟩ (keepAt S n) (rows8 S ⟨n, h⟩) else keepAt S n

end Cert.Nms.Ker
-- ==== Proof.KernelRun.lean ====
/- The block one run of the kernel body leaves, read as those functions of the blocks it reads. -/
module

public import proofs.«01_k».proof.Proof.KernelFn

@[expose] public section

set_option maxRecDepth 100000

noncomputable section

namespace Cert.Nms.Ker

open Idealize.ShloMosaic Idealize.ShloMosaic.TcCoe Idealize.ShloMosaic.Tactic
open Idealize.SL.Sem
open Cert.KernelIdeal Cert.KernelIdeal.Gen

section
variable (c : Dev nD) (arg0 : Memref sig .tc .vmem S1x5120 .f32) (harg0 : arg0.IsWhole)
    (arg1 : Memref sig .tc .vmem S5120x1 .f32) (harg1 : arg1.IsWhole) (arg2 : Memref sig .tc .vmem S8x5120 .f32) (harg2 : arg2.IsWhole)
    (arg3 : Memref sig .tc .vmem S8x1024 .f32) (harg3 : arg3.IsWhole) (arg4 : Memref sig .tc .vmem S1024x8x128 .f32) (harg4 : arg4.IsWhole)

/-- One trip of the loop over groups of eight boxes is one pass. -/
theorem pass_trip (𝒱 : Variants) (bd : Option 𝒱.V) (X : BufTy.Contents (Elt Ideal) arg4.view.ty) (k : Fin k0_t2_loop.trips) (acc : V S8x128) :
    (trip_k0_t2 𝒱 c bd arg0 harg0 arg1 harg1 arg2 harg2 arg3 harg3 arg4 harg4 k0_pay128 X k).1 acc
      = pass k acc (rows8 (arg4.view.read (Elt Ideal) X) k) := by
  unfold trip_k0_t2
  dsimp only
  sl_unfold_words
  simp only [View.readAt_eq_ld]
  have hR : View.ld (arg4.view.read (Elt Ideal) X) (Rect.unit (k0_off2 k) ![8, 8, 128] (k0_off2_inb k))
      = rows8 (arg4.view.read (Elt Ideal) X) k := rfl
  generalize rows8 (arg4.view.read (Elt Ideal) X) k = R at hR ⊢
  unfold k0_off2 at hR
  dsimp only at hR
  erw [hR]
  rfl

/-- The loop over groups of eight boxes is the passes over the matrix the scratch buffer holds. -/
theorem pass_loop (𝒱 : Variants) (bd : Option 𝒱.V) (X : BufTy.Contents (Elt Ideal) arg4.view.ty) (S : Vec Ideal S1024x8x128 .f32)
    (hX : arg4.view.read (Elt Ideal) X = S) :
    ∀ n, n ≤ k0_t2_loop.trips →
      st_k0_t2 (F := Ideal) 𝒱 c bd arg0 harg0 arg1 harg1 arg2 harg2 arg3 harg3 arg4 harg4 k0_pay128 X k0_pay176 n = keepAt S n
  | 0, _ => st_k0_t2_zero ..
  | n + 1, hn => by
    have h : n < k0_t2_loop.trips := hn
    rw [st_k0_t2_succ 𝒱 c bd arg0 harg0 arg1 harg1 arg2 harg2 arg3 harg3 arg4 harg4 k0_pay128 X k0_pay176 ⟨n, h⟩,
      pass_loop 𝒱 bd X S hX n (by omega), keepAt, dif_pos h, ← hX]
    exact pass_trip c arg0 harg0 arg1 harg1 arg2 harg2 arg3 harg3 arg4 harg4 𝒱 bd X ⟨n, h⟩ _

/-- The boxes predicted from the anchors and the offsets, with the scores: eight rows, the last three zero. -/
def pred (x0 : Vec Ideal S1x5120 .f32) (x2 : Vec Ideal S8x5120 .f32) : V S8x5120 :=
  k0_pay85 (k0_pay72 x0) (k0_pay79 x2) (k0_pay81 x2) (k0_pay82 x2) (k0_pay83 x2) (k0_pay84 x2) zero (Scalar.ofBits .f32 0x44000000#32)

/-- The rank of every box. -/
abbrev rank (x0 : Vec Ideal S1x5120 .f32) (x1 : Vec Ideal S5120x1 .f32) : V S1x5120 := rankAt x0 x1 k0_t1_loop.trips

/-- The suppression matrix of a selection given by rows and by columns. -/
def suppr (sr : V S8x1024) (sc : V S1024x8) : Vec Ideal S1024x8x128 .f32 :=
  View.canon (pieces sc (fold 0 slices_S8x1024_o0_0_S1x1024 sr) (fold 1 slices_S8x1024_o1_0_S1x1024 sr)
    (fold 2 slices_S8x1024_o2_0_S1x1024 sr) (fold 3 slices_S8x1024_o3_0_S1x1024 sr))

/-- The eight blocks cover the matrix. -/
theorem pieces_cover (sc : V S1024x8) (r0 r1 r2 r3 : V S1x8x128) (y : S1024x8x128.Idx) : ∃ p ∈ pieces sc r0 r1 r2 r3, y ∈ p.1.set :=
  View.cover_of_tiledL (pieces sc r0 r1 r2 r3) S128x8x128.size (by sl_kernel_rfl) y

section layers
variable (x0 : Vec Ideal S1x5120 .f32) (x1 : Vec Ideal S5120x1 .f32) (x2 : Vec Ideal S8x5120 .f32)

open Cert.KernelIdeal.Gen.kernelRun0_A.sl

/-- Both offsets of a whole block are zero. -/
theorem zero2 : (![0, 0] : Fin 2 → ℕ) = fun _ => 0 := by
  funext a; fin_cases a <;> rfl

/-- The whole first block, read. -/
theorem whole0 (h) : View.ld x0 (Rect.unit ![0, 0] S1x5120.size h) = x0 := View.ld_unit_zero (S := S1x5120) zero2 h x0
/-- The whole third block, read. -/
theorem whole2 (h) : View.ld x2 (Rect.unit ![0, 0] S8x5120.size h) = x2 := View.ld_unit_zero (S := S8x5120) zero2 h x2

/-- The first block as the run holds it. -/
theorem l0 : r c arg0 harg0 x0 = k0_pay72 x0 := by
  unfold r; rw [View.readAt_eq_ld, harg0.read_unread, whole0]
/-- The rows of the third block as the run holds them. -/
theorem l1 : r_1 c arg2 harg2 x2 = k0_pay79 x2 ∧ r_2 c arg2 harg2 x2 = k0_pay81 x2 ∧ r_3 c arg2 harg2 x2 = k0_pay82 x2
    ∧ r_4 c arg2 harg2 x2 = k0_pay83 x2 ∧ r_5 c arg2 harg2 x2 = k0_pay84 x2 := by
  unfold r_1 r_2 r_3 r_4 r_5; rw [View.readAt_eq_ld, harg2.read_unread, whole2]; exact ⟨rfl, rfl, rfl, rfl, rfl⟩

/-- The predicted boxes of the run. -/
theorem l6 : r_6 c arg0 harg0 arg2 harg2 x0 x2 = pred x0 x2 := by
  obtain ⟨h1, h2, h3, h4, h5⟩ := l1 c arg2 harg2 x2
  unfold r_6; rw [l0, h1, h2, h3, h4, h5]; rfl

/-- The ranks of the run. -/
theorem l7 : r_7 c arg0 harg0 arg1 harg1 arg2 harg2 arg3 harg3 arg4 harg4 x0 x1 x2 = rank x0 x1 := by
  unfold r_7; rw [l0]; exact rank_loop _ c _ arg0 harg0 arg1 harg1 arg2 harg2 arg3 harg3 arg4 harg4 _ _ _ _ _ _ _ _ _ _ le_rfl

/-- The selection by rows of the run. -/
theorem l19 : r_19 c arg0 harg0 arg1 harg1 arg2 harg2 arg3 harg3 arg4 harg4 x0 x1 x2 = selR (pred x0 x2) (rank x0 x1) := by
  obtain ⟨h1, h2, h3, h4, h5⟩ := l1 c arg2 harg2 x2
  have h7 := l7 c arg0 harg0 arg1 harg1 arg2 harg2 arg3 harg3 arg4 harg4 x0 x1 x2
  unfold r_7 at h7
  unfold r_19 r_16 r_18 r_13 r_15 r_8 r_12
  rw [l6, l7, h7, l0, h1, h2, h3, h4, h5]
  rfl

/-- The selection by columns of the run. -/
theorem l20 : r_20 c arg0 harg0 arg1 harg1 arg2 harg2 arg3 harg3 arg4 harg4 x0 x1 x2 = selC (pred x0 x2) (rank x0 x1) := by
  obtain ⟨h1, h2, h3, h4, h5⟩ := l1 c arg2 harg2 x2
  have h7 := l7 c arg0 harg0 arg1 harg1 arg2 harg2 arg3 harg3 arg4 harg4 x0 x1 x2
  unfold r_7 at h7
  unfold r_20 r_17 r_18 r_14 r_15 r_9 r_10 r_11
  rw [l6, l7, h7, l0, h1, h2, h3, h4, h5]
  rfl

/-- The first row of the selection of the run, folded. -/
theorem l21 : r_21 c arg0 harg0 arg1 harg1 arg2 harg2 arg3 harg3 arg4 harg4 x0 x1 x2 = fold 0 slices_S8x1024_o0_0_S1x1024 (selR (pred x0 x2) (rank x0 x1)) := by
  rw [← l19 c arg0 harg0 arg1 harg1 arg2 harg2 arg3 harg3 arg4 harg4 x0 x1 x2]; unfold r_19; rfl
/-- The second row of the selection of the run, folded. -/
theorem l22 : r_22 c arg0 harg0 arg1 harg1 arg2 harg2 arg3 harg3 arg4 harg4 x0 x1 x2 = fold 1 slices_S8x1024_o1_0_S1x1024 (selR (pred x0 x2) (rank x0 x1)) := by
  rw [← l19 c arg0 harg0 arg1 harg1 arg2 harg2 arg3 harg3 arg4 harg4 x0 x1 x2]; unfold r_19; rfl
/-- The third row of the selection of the run, folded. -/
theorem l23 : r_23 c arg0 harg0 arg1 harg1 arg2 harg2 arg3 harg3 arg4 harg4 x0 x1 x2 = fold 2 slices_S8x1024_o2_0_S1x1024 (selR (pred x0 x2) (rank x0 x1)) := by
  rw [← l19 c arg0 harg0 arg1 harg1 arg2 harg2 arg3 harg3 arg4 harg4 x0 x1 x2]; unfold r_19; rfl
/-- The fourth row of the selection of the run, folded. -/
theorem l24 : r_24 c arg0 harg0 arg1 harg1 arg2 harg2 arg3 harg3 arg4 harg4 x0 x1 x2 = fold 3 slices_S8x1024_o3_0_S1x1024 (selR (pred x0 x2) (rank x0 x1)) := by
  rw [← l19 c arg0 harg0 arg1 harg1 arg2 harg2 arg3 harg3 arg4 harg4 x0 x1 x2]; unfold r_19; rfl
/-- One side of the boxes of the selection of the run, at least 0. -/
theorem l25 : r_25 c arg0 harg0 arg1 harg1 arg2 harg2 arg3 harg3 arg4 harg4 x0 x1 x2 = maximumf (subf (r_23 c arg0 harg0 arg1 harg1 arg2 harg2 arg3 harg3 arg4 harg4 x0 x1 x2) (r_21 c arg0 harg0 arg1 harg1 arg2 harg2 arg3 harg3 arg4 harg4 x0 x1 x2)) (broadcast S1x8x128 zero) := by
  unfold r_25 r_21 r_23; rfl
/-- The areas of the boxes of the selection of the run. -/
theorem l26 : r_26 c arg0 harg0 arg1 harg1 arg2 harg2 arg3 harg3 arg4 harg4 x0 x1 x2 = (areas (r_21 c arg0 harg0 arg1 harg1 arg2 harg2 arg3 harg3 arg4 harg4 x0 x1 x2) (r_22 c arg0 harg0 arg1 harg1 arg2 harg2 arg3 harg3 arg4 harg4 x0 x1 x2) (r_23 c arg0 harg0 arg1 harg1 arg2 harg2 arg3 harg3 arg4 harg4 x0 x1 x2) (r_24 c arg0 harg0 arg1 harg1 arg2 harg2 arg3 harg3 arg4 harg4 x0 x1 x2)) := by
  unfold r_26 r_25 r_21 r_23; rfl

/-- The matrix the run stores. -/
theorem l8 : HS0_8 c arg0 harg0 arg1 harg1 arg2 harg2 arg3 harg3 arg4 harg4 x0 x1 x2
    = pieces (selC (pred x0 x2) (rank x0 x1)) (fold 0 slices_S8x1024_o0_0_S1x1024 (selR (pred x0 x2) (rank x0 x1)))
        (fold 1 slices_S8x1024_o1_0_S1x1024 (selR (pred x0 x2) (rank x0 x1)))
        (fold 2 slices_S8x1024_o2_0_S1x1024 (selR (pred x0 x2) (rank x0 x1)))
        (fold 3 slices_S8x1024_o3_0_S1x1024 (selR (pred x0 x2) (rank x0 x1))) := by
  unfold HS0_8 r_51 r_50 r_49 r_27 r_28 r_29 r_30 r_31 r_32 r_33 r_34 r_35 r_36 r_37 r_38 r_39 r_40 r_41 r_42 r_43 r_44 r_45 r_46 r_47 r_48
  rw [l26, l25, l20, l21, l22, l23, l24]
  generalize fold 0 slices_S8x1024_o0_0_S1x1024 (selR (pred x0 x2) (rank x0 x1)) = q0
  generalize fold 1 slices_S8x1024_o1_0_S1x1024 (selR (pred x0 x2) (rank x0 x1)) = q1
  generalize fold 2 slices_S8x1024_o2_0_S1x1024 (selR (pred x0 x2) (rank x0 x1)) = q2
  generalize fold 3 slices_S8x1024_o3_0_S1x1024 (selR (pred x0 x2) (rank x0 x1)) = q3
  generalize selC (pred x0 x2) (rank x0 x1) = sc
  rfl

/-- The whole computation of the body: the selected boxes, times 1 where kept and 0 where suppressed. -/
theorem out_eq : out0_A_3 c arg0 harg0 arg1 harg1 arg2 harg2 arg3 harg3 arg4 harg4 x0 x1 x2
    = k0_pay178 (selR (pred x0 x2) (rank x0 x1))
        (keepAt (suppr (selR (pred x0 x2) (rank x0 x1)) (selC (pred x0 x2) (rank x0 x1))) k0_t2_loop.trips) := by
  have hX : arg4.view.read (Elt Ideal) (arg4.view.writes (Elt Ideal) arg4.view.junk (HS0_8 c arg0 harg0 arg1 harg1 arg2 harg2 arg3 harg3 arg4 harg4 x0 x1 x2))
      = suppr (selR (pred x0 x2) (rank x0 x1)) (selC (pred x0 x2) (rank x0 x1)) := by
    rw [l8]; exact View.read_writes_eq_canon _ _ _ (pieces_cover _ _ _ _ _)
  unfold out0_A_3
  rw [View.read_writes_eq_canon _ _ _ (cover0_A_3 c arg0 harg0 arg1 harg1 arg2 harg2 arg3 harg3 arg4 harg4 x0 x1 x2)]
  unfold kernelRun0_A
  dsimp only
  refine (View.canon_unit_zero (S := S8x1024) zero2 inb_S8x1024_S8x1024_0_0 _).trans ?_
  unfold r_52
  rw [l19]
  exact congrArg (k0_pay178 _)
    (pass_loop c arg0 harg0 arg1 harg1 arg2 harg2 arg3 harg3 arg4 harg4 _ _ _ _ hX k0_t2_loop.trips le_rfl)

end layers

end

end Cert.Nms.Ker
-- ==== Proof.Passes.lean ====
/- The passes over the suppression matrix decide the boxes one after the other. -/
module

public import proofs.«01_k».proof.Proof.KernelRun
public import Idealize.ShloMosaic.Lib.Pointwise
public import Idealize.ShloMosaic.Lib.Pipeline.ValueKit.Tiles

@[expose] public section

set_option maxRecDepth 100000

noncomputable section

namespace Cert.Nms

open Classical in
/-- The number of a proposition: 1 if it holds, 0 if not. -/
def ind (p : Prop) : EReal := if p then 1 else 0

/-- Greedy suppression: which positions are kept once the first `n` have been decided. `O i j` says that `i` suppresses `j`. -/
def kept (O : ℕ → ℕ → Prop) : ℕ → ℕ → Prop
  | 0, _ => True
  | n + 1, j => kept O n j ∧ ¬(O n j ∧ kept O n n)

theorem ind_true : ind True = 1 := by simp [ind]

/-- One decision, by numbers. -/
theorem kept_step (O : ℕ → ℕ → Prop) (n j : ℕ) :
    ind (kept O n j) * (1 - ind (O n j) * ind (kept O n n)) = ind (kept O (n + 1) j) := by
  have h1 : (1 : EReal) - 1 = 0 := by rw [← EReal.coe_one, ← EReal.coe_sub]; simp
  by_cases a : kept O n j <;> by_cases b : O n j <;> by_cases d : kept O n n <;> simp [kept, ind, a, b, d, h1]

end Cert.Nms

namespace Cert.Nms.Ker

open Idealize.ShloMosaic Idealize.ShloMosaic.TcCoe Idealize.ShloMosaic.Tactic
open Idealize.SL.Sem
open Cert.KernelIdeal Cert.KernelIdeal.Gen

/-- The loop over groups of eight makes 125 trips. -/
theorem trips2 : k0_t2_loop.trips = 125 := by decide

/-- So a trip's number is below 125. -/
theorem lt125 (k : Fin k0_t2_loop.trips) : k.val < 125 := lt_of_lt_of_le k.isLt trips2.le

/-- Position `8 k + u` is where the mask holds. -/
theorem mask_apply (k : Fin k0_t2_loop.trips) (u : ℕ) (hu : u < 8) (a : Fin 8) (b : Fin 128) :
    mask k (BitVec.ofNat 32 u) (ix2 a b) = if 128 * a.val + b.val = 8 * k.val + u then 1 else 0 := by
  have hk : k.val < 125 := lt125 k
  have ha := a.isLt
  have hb := b.isLt
  unfold mask
  unfold_payloads
  pointwise
  have e1 : IntOp.addi (IntOp.muli (BitVec.ofNat 32 a.val) 128#32) (BitVec.ofNat 32 b.val) = BitVec.ofNat 32 (128 * a.val + b.val) := by
    apply BitVec.eq_of_toNat_eq
    simp only [IntOp.addi, IntOp.muli, BitVec.toNat_add, BitVec.toNat_mul, BitVec.toNat_ofNat]
    omega
  have e2 : Scalar.addi (Scalar.muli (Scf.iv 0#32 1#32 k.val) 8#32) (BitVec.ofNat 32 u) = BitVec.ofNat 32 (8 * k.val + u) := by
    apply BitVec.eq_of_toNat_eq
    simp only [Scalar.addi, Scalar.muli, Scf.iv, IntOp.addi, IntOp.muli, BitVec.toNat_add, BitVec.toNat_mul, BitVec.toNat_ofNat]
    omega
  rw [e1, e2]
  by_cases h : 128 * a.val + b.val = 8 * k.val + u
  · rw [h]; simp [IntOp.cmpi]
  · have : BitVec.ofNat 32 (128 * a.val + b.val) ≠ BitVec.ofNat 32 (8 * k.val + u) := fun e => h (by
      have := congrArg BitVec.toNat e
      simp only [BitVec.toNat_ofNat] at this
      omega)
    rw [if_neg h]; simp only [IntOp.cmpi]; rw [beq_eq_false_iff_ne.2 this]; rfl

/-- The same number everywhere. -/
abbrev cst (x : EReal) : V S1x1 := fun _ => x

/-- The entry of an array at position `8 k + u`. -/
theorem pick_eq (k : Fin k0_t2_loop.trips) (u : ℕ) (hu : u < 8) (v : V S8x128) (g : ℕ → EReal)
    (hv : ∀ (a : Fin 8) (b : Fin 128), v (ix2 a b) = g (128 * a.val + b.val)) :
    pick (mask k (BitVec.ofNat 32 u)) v = cst (g (8 * k.val + u)) := by
  have hk : k.val < 125 := lt125 k
  funext i
  unfold pick
  pointwise
  have e : ∀ (a : Fin 8) (b : Fin 128), Scalar.select (mask k (BitVec.ofNat 32 u) (ix2 a b)) (v (ix2 a b)) (0 : EReal)
      = if a = ⟨(8 * k.val + u) / 128, by omega⟩ ∧ b = ⟨(8 * k.val + u) % 128, by omega⟩ then g (8 * k.val + u) else 0 := by
    intro a b
    have hb := b.isLt
    rw [mask_apply k u hu, hv]
    have hc : (128 * a.val + b.val = 8 * k.val + u)
        ↔ (a = ⟨(8 * k.val + u) / 128, by omega⟩ ∧ b = ⟨(8 * k.val + u) % 128, by omega⟩) := by
      rw [Fin.ext_iff, Fin.ext_iff]; constructor
      · intro h; constructor <;> simp only <;> omega
      · rintro ⟨h1, h2⟩; simp only at h1 h2; omega
    by_cases h : 128 * a.val + b.val = 8 * k.val + u
    · rw [if_pos h, if_pos (hc.1 h), h]; rfl
    · rw [if_neg h, if_neg (fun x => h (hc.2 x))]; rfl
  refine (Finset.sum_congr rfl fun a _ => Finset.sum_congr rfl fun b _ => e a b).trans ?_
  simp only [ite_and, Finset.sum_ite_irrel, Finset.sum_const_zero, Finset.sum_ite_eq', Finset.mem_univ, if_true]

/-- Row `u` of eight rows. -/
theorem row_apply (u : ℕ) (h) (R : Vec Ideal S8x8x128 .f32) (hu : u < 8) (a : Fin 8) (b : Fin 128) : row u h R (ix2 a b) = R (ix3 ⟨u, hu⟩ a b) := by
  unfold row
  pointwise

/-- One decision, on arrays of one number. -/
theorem mul_off (O : ℕ → ℕ → Prop) (n j : ℕ) :
    mulf (cst (ind (kept O n j))) (off (cst (ind (O n j))) (cst (ind (kept O n n)))) = cst (ind (kept O (n + 1) j)) := by
  funext i
  unfold off
  pointwise
  exact kept_step O n j

/-- One pass decides the eight boxes `8 k … 8 k + 7`. -/
theorem pass_kept (O : ℕ → ℕ → Prop) (k : Fin k0_t2_loop.trips) (acc : V S8x128) (R : Vec Ideal S8x8x128 .f32)
    (hacc : ∀ (a : Fin 8) (b : Fin 128), acc (ix2 a b) = ind (kept O (8 * k.val) (128 * a.val + b.val)))
    (hR : ∀ (u a : Fin 8) (b : Fin 128), R (ix3 u a b) = ind (O (8 * k.val + u.val) (128 * a.val + b.val)))
    (a : Fin 8) (b : Fin 128) : pass k acc R (ix2 a b) = ind (kept O (8 * (k.val + 1)) (128 * a.val + b.val)) := by
  have pa : ∀ u, u < 8 → pick (mask k (BitVec.ofNat 32 u)) acc = cst (ind (kept O (8 * k.val + 0) (8 * k.val + u))) :=
    fun u hu => pick_eq k u hu acc (fun j => ind (kept O (8 * k.val) j)) hacc
  have pr : ∀ (w : ℕ) (h) (hw : w < 8) (u : ℕ) (hu : u < 8), pick (mask k (BitVec.ofNat 32 u)) (row w h R)
      = cst (ind (O (8 * k.val + w) (8 * k.val + u))) :=
    fun w h hw u hu => pick_eq k u hu (row w h R) (fun j => ind (O (8 * k.val + w) j)) fun a b => by rw [row_apply w h R hw, hR]
  have rr : ∀ (w : ℕ) (h) (hw : w < 8), row w h R (ix2 a b) = ind (O (8 * k.val + w) (128 * a.val + b.val)) :=
    fun w h hw => by rw [row_apply w h R hw, hR]
  dsimp only [pass]
  simp (disch := omega) only [pa, pr, mul_off, Nat.add_assoc, Nat.reduceAdd]
  unfold offs
  pointwise
  simp (disch := omega) only [rr, ← mul_assoc]
  rw [hacc]
  simp only [cst, Nat.add_zero, kept_step O, Nat.add_assoc, Nat.reduceAdd, Nat.mul_add, Nat.mul_one]

/-- Rows `8 k` to `8 k + 7` at a position. -/
theorem rows8_apply (S : Vec Ideal S1024x8x128 .f32) (k : Fin k0_t2_loop.trips) (u a : Fin 8) (b : Fin 128) :
    rows8 S k (ix3 u a b) = S (ix3 ⟨8 * k.val + u.val, by have h := lt125 k; omega⟩ a b) := by
  have hk : k.val < 125 := lt125 k
  have e : (Scalar.indexCast (Scalar.muli (Scf.iv 0#32 1#32 k.val) 8#32)).toNat = 8 * k.val := by
    simp only [Scalar.indexCast, Scalar.muli, Scf.iv, IntOp.muli, BitVec.toNat_add, BitVec.toNat_mul, BitVec.toNat_ofNat]
    omega
  refine View.ld_unit_apply_of _ _ _ _ _ _ fun x => ?_
  match x with
  | ⟨0, _⟩ => show 8 * k.val + u.val = (Scalar.indexCast (Scalar.muli (Scf.iv 0#32 1#32 k.val) 8#32)).toNat + u.val; rw [e]
  | ⟨1, _⟩ => show a.val = 0 + a.val; omega
  | ⟨2, _⟩ => show b.val = 0 + b.val; omega

/-- The passes keep what greedy suppression keeps. -/
theorem keepAt_kept (O : ℕ → ℕ → Prop) (S : Vec Ideal S1024x8x128 .f32)
    (hS : ∀ (i : Fin 1024) (a : Fin 8) (b : Fin 128), S (ix3 i a b) = ind (O i.val (128 * a.val + b.val))) :
    ∀ n, n ≤ k0_t2_loop.trips → ∀ (a : Fin 8) (b : Fin 128), keepAt S n (ix2 a b) = ind (kept O (8 * n) (128 * a.val + b.val))
  | 0, _, a, b => by
    rw [Nat.mul_zero, show kept O 0 (128 * a.val + b.val) = True from rfl, ind_true]
    show k0_pay176 (ix2 a b) = 1
    unfold_payloads
    pointwise
  | n + 1, hn, a, b => by
    have h : n < k0_t2_loop.trips := hn
    rw [keepAt, dif_pos h]
    exact pass_kept O ⟨n, h⟩ _ _ (keepAt_kept O S hS n (by omega)) (fun u a b => by rw [rows8_apply, hS]) a b

end Cert.Nms.Ker
-- ==== Proof.Matrix.lean ====
/- The suppression matrix at an index: which of two boxes suppresses the other. -/
module

public import proofs.«01_k».proof.Proof.Passes

@[expose] public section

set_option maxRecDepth 100000

noncomputable section

namespace Cert.Nms

open Idealize.ShloMosaic

/-- The area of a box given by its corners, each side at least 0. -/
def area (a : Fin 4 → EReal) : EReal := max (a 2 - a 0) 0 * max (a 3 - a 1) 0

/-- The area of the intersection of two boxes. -/
def common (a b : Fin 4 → EReal) : EReal :=
  max (min (a 2) (b 2) - max (a 0) (b 0)) 0 * max (min (a 3) (b 3) - max (a 1) (b 1)) 0

/-- Two boxes overlap by more than a half of their union. -/
def over (a b : Fin 4 → EReal) : Prop :=
  Ideal.ofBits FTy.f32 0x3F000000#32
    < Ideal.div (common a b) (area a + area b - common a b + Ideal.ofBits FTy.f32 0x358637BD#32)

end Cert.Nms

namespace Cert.Nms.Ker

open Idealize.ShloMosaic Idealize.ShloMosaic.TcCoe Idealize.ShloMosaic.Tactic
open Idealize.SL.Sem
open Cert.KernelIdeal Cert.KernelIdeal.Gen

/-- A selection by a proposition's bit is the proposition's number. -/
theorem select_ind (p q : Prop) [Decidable p] [Decidable q] (w : BitVec 1) (hw : w = BitVec.ofBool (decide q)) :
    Scalar.select (IntOp.andi (BitVec.ofBool (decide p)) w) (1 : EReal) 0 = ind (p ∧ q) := by
  subst hw
  by_cases hp : p <;> by_cases hq : q <;> simp [ind, Scalar.select, IntOp.andi, hp, hq]

/-- A block of 128 rows at an index. -/
theorem blk_apply (o : ℕ) (c0 c1 c2 c3 : V S128x1x1) (r0 r1 r2 r3 : V S1x8x128) (q : Fin 128) (a : Fin 8) (b : Fin 128) (ho : o + 128 ≤ 1024) :
    blk (BitVec.ofNat 32 o) c0 c1 c2 c3 r0 r1 r2 r3 (ix3 q a b)
      = ind (over ![c0 (ix3 q 0 0), c1 (ix3 q 0 0), c2 (ix3 q 0 0), c3 (ix3 q 0 0)] ![r0 (ix3 0 a b), r1 (ix3 0 a b), r2 (ix3 0 a b), r3 (ix3 0 a b)]
          ∧ o + q.val < 128 * a.val + b.val) := by
  have hq := q.isLt
  have ha := a.isLt
  have hb := b.isLt
  unfold blk inter bc br areas
  unfold_payloads
  pointwise
  refine select_ind _ _ _ ?_
  have e1 : IntOp.addi (IntOp.muli (BitVec.ofNat 32 a.val) 128#32) (BitVec.ofNat 32 b.val) = BitVec.ofNat 32 (128 * a.val + b.val) := by
    apply BitVec.eq_of_toNat_eq
    simp only [IntOp.addi, IntOp.muli, BitVec.toNat_add, BitVec.toNat_mul, BitVec.toNat_ofNat]
    omega
  have e2 : IntOp.addi (BitVec.ofNat 32 q.val) (BitVec.ofNat 32 o) = BitVec.ofNat 32 (o + q.val) := by
    apply BitVec.eq_of_toNat_eq
    simp only [IntOp.addi, BitVec.toNat_add, BitVec.toNat_ofNat]
    omega
  rw [e1, e2]
  simp only [IntOp.cmpi]
  congr 1
  rw [BitVec.slt_eq_decide]
  refine decide_eq_decide.2 ?_
  rw [BitVec.toInt_eq_toNat_of_lt (by simp only [BitVec.toNat_ofNat]; omega), BitVec.toInt_eq_toNat_of_lt (by simp only [BitVec.toNat_ofNat]; omega)]
  simp only [BitVec.toNat_ofNat]
  omega

/-- A column piece at an index. -/
theorem col_apply (o f : ℕ) (h) (s : V S1024x8) (ho : o + 128 ≤ 1024) (hf : f < 8) (q : Fin 128) :
    col o f h s (ix3 q 0 0) = s (ix2 ⟨o + q.val, by omega⟩ ⟨f, hf⟩) := by
  unfold col
  pointwise

/-- A folded row at an index. -/
theorem fold_apply (f : ℕ) (h) (s : V S8x1024) (hf : f < 8) (a : Fin 8) (b : Fin 128) :
    fold f h s (ix3 0 a b) = s (ix2 ⟨f, hf⟩ ⟨128 * a.val + b.val, by omega⟩) := by
  have ha := a.isLt
  have hb := b.isLt
  unfold fold
  pointwise
  split_ifs <;> (congr 2 <;> (apply Fin.ext; simp only; omega))

/-- The corners of the box a column-wise selection holds in row `i`. -/
abbrev boxC (s : V S1024x8) (i : Fin 1024) : Fin 4 → EReal := ![s (ix2 i 0), s (ix2 i 1), s (ix2 i 2), s (ix2 i 3)]
/-- The corners of the box a row-wise selection holds in column `j`. -/
abbrev boxR (s : V S8x1024) (j : Fin 1024) : Fin 4 → EReal := ![s (ix2 0 j), s (ix2 1 j), s (ix2 2 j), s (ix2 3 j)]

/-- One block of rows within the matrix. -/
theorem blk_at (sr : V S8x1024) (sc : V S1024x8) (o : ℕ) (ho : o + 128 ≤ 1024) (h0 h1 h2 h3) (i : Fin 1024) (a : Fin 8) (b : Fin 128) :
    View.TileAt (Val := Elt Ideal) (S := S1024x8x128) (e := .f32) (ix3 i a b) ![o, 0, 0] S128x8x128.size
      (blk (BitVec.ofNat 32 o) (col o 0 h0 sc) (col o 1 h1 sc) (col o 2 h2 sc) (col o 3 h3 sc)
        (fold 0 slices_S8x1024_o0_0_S1x1024 sr) (fold 1 slices_S8x1024_o1_0_S1x1024 sr)
        (fold 2 slices_S8x1024_o2_0_S1x1024 sr) (fold 3 slices_S8x1024_o3_0_S1x1024 sr))
      (ind (over (boxC sc i) (boxR sr ⟨128 * a.val + b.val, by omega⟩) ∧ i.val < 128 * a.val + b.val)) := by
  intro x hx
  have e0 : i.val = o + (x 0).val := hx 0
  have e1 : a.val = 0 + (x 1).val := hx 1
  have e2 : b.val = 0 + (x 2).val := hx 2
  obtain ⟨q, hq, hi⟩ : ∃ q : Fin 128, x = ix3 q a b ∧ i.val = o + q.val := by
    refine ⟨x 0, ?_, e0⟩
    rw [eq_ix3 x]
    congr 1 <;> apply Fin.ext
    · show (x 1).val = a.val; omega
    · show (x 2).val = b.val; omega
  subst hq
  refine (blk_apply o _ _ _ _ _ _ _ _ q a b ho).trans ?_
  rw [col_apply o 0 h0 sc ho (by omega), col_apply o 1 h1 sc ho (by omega), col_apply o 2 h2 sc ho (by omega), col_apply o 3 h3 sc ho (by omega),
    fold_apply 0 _ sr (by omega), fold_apply 1 _ sr (by omega), fold_apply 2 _ sr (by omega), fold_apply 3 _ sr (by omega)]
  have ei : (⟨o + q.val, by omega⟩ : Fin 1024) = i := Fin.ext hi.symm
  rw [ei, ← hi]
  rfl

/-- The matrix at an index. -/
theorem suppr_apply (sr : V S8x1024) (sc : V S1024x8) (i : Fin 1024) (a : Fin 8) (b : Fin 128) :
    suppr sr sc (ix3 i a b) = ind (over (boxC sc i) (boxR sr ⟨128 * a.val + b.val, by omega⟩) ∧ i.val < 128 * a.val + b.val) := by
  refine View.canon_eq_of_allAt _ _ _ (pieces_cover _ _ _ _ _ _) ?_
  unfold pieces
  repeat' first | exact View.allAt_nil _ _ | refine View.allAt_cons_unit _ _ _ _ _ (blk_at sr sc _ (by omega) _ _ _ _ i a b) ?_

end Cert.Nms.Ker
-- ==== Proof.Select.lean ====
/- Ranks and selections at an index: a rank counts the boxes that come before, and a selection takes the box of a rank. -/
module

public import proofs.«01_k».proof.Proof.Matrix

@[expose] public section

set_option maxRecDepth 100000

noncomputable section

namespace Cert.Nms.Ker

open Idealize.ShloMosaic Idealize.ShloMosaic.TcCoe Idealize.ShloMosaic.Tactic
open Idealize.SL.Sem
open Cert.KernelIdeal Cert.KernelIdeal.Gen

/-! ## Selections -/

/-- What column `i` contributes to place `j` of a selection, in row `f`. -/
def share (p : V S8x5120) (rk : V S1x5120) (f : Fin 8) (j : Fin 1024) (i : ℕ) : EReal :=
  if h : i < 5120 then p (ix2 f ⟨i, h⟩) * ind (rk (ix2 0 ⟨i, h⟩) = ((j.val : ℝ) : EReal)) else 0

/-- A small number read back from a word. -/
theorem sitofp_small (j : Fin 1024) : (FloatOps.sitofp FTy.f32 (BitVec.ofNat 32 j.val) : Ideal .f32) = ((j.val : ℝ) : EReal) := by
  have hj := j.isLt
  show (((BitVec.ofNat 32 j.val).toInt : ℝ) : EReal) = _
  rw [BitVec.toInt_eq_toNat_of_lt (by simp only [BitVec.toNat_ofNat]; omega)]
  simp only [BitVec.toNat_ofNat]
  rw [Nat.mod_eq_of_lt (by omega)]
  norm_cast

/-- A tile's product is the sum of its columns' contributions. -/
theorem tileR_apply (o : ℕ) (h) (h') (p : V S8x5120) (rk : V S1x5120) (f : Fin 8) (j : Fin 1024) (ho : o + 512 ≤ 5120) :
    tileR o h h' p rk (ix2 f j) = ∑ x ∈ Finset.range 512, share p rk f j (o + x) := by
  unfold tileR oneHot
  pointwise
  rw [← Fin.sum_univ_eq_sum_range]
  refine Finset.sum_congr rfl fun x _ => ?_
  have hx := x.isLt
  rw [share, dif_pos (by omega), sitofp_small]
  unfold ind
  congr

/-- The same of a tile's product laid out by columns. -/
theorem tileC_apply (o : ℕ) (h) (h') (p : V S8x5120) (rk : V S1x5120) (f : Fin 8) (j : Fin 1024) (ho : o + 512 ≤ 5120) :
    tileC o h h' p rk (ix2 j f) = ∑ x ∈ Finset.range 512, share p rk f j (o + x) := by
  unfold tileC oneHot
  pointwise
  rw [← Fin.sum_univ_eq_sum_range]
  refine Finset.sum_congr rfl fun x _ => ?_
  have hx := x.isLt
  rw [share, dif_pos (by omega), sitofp_small, mul_comm]
  unfold ind
  congr

/-- Ten sums of 512 are one sum of 5120. -/
theorem ten_sums (F : ℕ → EReal) :
    (∑ x ∈ Finset.range 512, F (0 + x)) + (∑ x ∈ Finset.range 512, F (512 + x)) + (∑ x ∈ Finset.range 512, F (1024 + x))
      + (∑ x ∈ Finset.range 512, F (1536 + x)) + (∑ x ∈ Finset.range 512, F (2048 + x)) + (∑ x ∈ Finset.range 512, F (2560 + x))
      + (∑ x ∈ Finset.range 512, F (3072 + x)) + (∑ x ∈ Finset.range 512, F (3584 + x)) + (∑ x ∈ Finset.range 512, F (4096 + x))
      + (∑ x ∈ Finset.range 512, F (4608 + x)) = ∑ x ∈ Finset.range 5120, F x := by
  rw [show (5120 : ℕ) = 0 + 512 + 512 + 512 + 512 + 512 + 512 + 512 + 512 + 512 + 512 from rfl]
  simp only [Finset.sum_range_add, Finset.range_zero, Finset.sum_empty, zero_add]

/-- A selection by rows at an index. -/
theorem selR_sum (p : V S8x5120) (rk : V S1x5120) (f : Fin 8) (j : Fin 1024) :
    selR p rk (ix2 f j) = ∑ i ∈ Finset.range 5120, share p rk f j i := by
  rw [← ten_sums]
  unfold selR
  pointwise
  simp (disch := omega) only [tileR_apply, zero_add]

/-- A selection by columns at an index. -/
theorem selC_sum (p : V S8x5120) (rk : V S1x5120) (f : Fin 8) (j : Fin 1024) :
    selC p rk (ix2 j f) = ∑ i ∈ Finset.range 5120, share p rk f j i := by
  rw [← ten_sums]
  unfold selC
  pointwise
  simp (disch := omega) only [tileC_apply, zero_add]

/-- The two selections hold the same numbers. -/
theorem selC_eq (p : V S8x5120) (rk : V S1x5120) (f : Fin 8) (j : Fin 1024) : selC p rk (ix2 j f) = selR p rk (ix2 f j) := by
  rw [selC_sum, selR_sum]

/-- Where exactly one column has rank `j`, the selection at place `j` is that column. -/
theorem selR_eq (p : V S8x5120) (rk : V S1x5120) (f : Fin 8) (j : Fin 1024) (i : Fin 5120)
    (h : ∀ a : Fin 5120, rk (ix2 0 a) = ((j.val : ℝ) : EReal) ↔ a = i) : selR p rk (ix2 f j) = p (ix2 f i) := by
  rw [selR_sum, Finset.sum_eq_single i.val]
  · rw [share, dif_pos i.isLt, (h i).2 rfl]; simp [ind]
  · intro a ha hne
    rw [share, dif_pos (Finset.mem_range.1 ha)]
    have : ¬ rk (ix2 0 ⟨a, Finset.mem_range.1 ha⟩) = ((j.val : ℝ) : EReal) := fun e => hne (congrArg Fin.val ((h _).1 e))
    rw [ind, if_neg this, mul_zero]
  · intro hi; exact absurd (Finset.mem_range.2 i.isLt) hi

/-! ## Ranks -/

/-- Entry `i` comes before entry `j` in the order of the ranks: a greater score, or the same score and a smaller index. -/
def beats (x0 : Vec Ideal S1x5120 .f32) (x1 : Vec Ideal S5120x1 .f32) (j : Fin 5120) (i : ℕ) : Prop :=
  ∃ h : i < 5120, x0 (ix2 0 j) < x1 (ix2 ⟨i, h⟩ 0) ∨ (x1 (ix2 ⟨i, h⟩ 0) = x0 (ix2 0 j) ∧ i < j.val)

/-- The rank loop makes 160 trips. -/
theorem trips1 : k0_t1_loop.trips = 160 := by decide
/-- So a trip's number is below 160. -/
theorem lt160 (k : Fin k0_t1_loop.trips) : k.val < 160 := lt_of_lt_of_le k.isLt trips1.le

/-- A block of 32 scores at an index. -/
theorem rows32_apply (x1 : Vec Ideal S5120x1 .f32) (k : Fin k0_t1_loop.trips) (q : Fin 32) :
    rows32 x1 k (ix2 q 0) = x1 (ix2 ⟨32 * k.val + q.val, by have h := lt160 k; omega⟩ 0) := by
  have hk := lt160 k
  have e : (Scalar.indexCast (Scalar.muli (Scf.iv 0#32 1#32 k.val) 32#32)).toNat = 32 * k.val := by
    simp only [Scalar.indexCast, Scalar.muli, Scf.iv, IntOp.muli, BitVec.toNat_add, BitVec.toNat_mul, BitVec.toNat_ofNat]
    omega
  refine View.ld_unit_apply_of _ _ _ _ _ _ fun x => ?_
  match x with
  | ⟨0, _⟩ => show 32 * k.val + q.val = (Scalar.indexCast (Scalar.muli (Scf.iv 0#32 1#32 k.val) 32#32)).toNat + q.val; rw [e]
  | ⟨1, _⟩ => rfl

/-- The bit of a comparison by score, then by index, as a number. -/
theorem select_beats (p q r : Prop) [Decidable p] [Decidable q] [Decidable r] (w : BitVec 1) (hw : w = BitVec.ofBool (decide r)) :
    Scalar.select (IntOp.ori (BitVec.ofBool (decide p)) (IntOp.andi (BitVec.ofBool (decide q)) w)) (1 : EReal) 0 = ind (p ∨ (q ∧ r)) := by
  subst hw
  by_cases hp : p <;> by_cases hq : q <;> by_cases hr : r <;> simp [ind, Scalar.select, IntOp.andi, IntOp.ori, hp, hq, hr]

/-- One trip of the rank loop counts the entries of its block that come before. -/
theorem rank_trip (x0 : Vec Ideal S1x5120 .f32) (x1 : Vec Ideal S5120x1 .f32) (k : Fin k0_t1_loop.trips) (acc : V S1x5120) (j : Fin 5120) :
    k0_pay87 (k0_pay72 x0) k acc (rows32 x1 k) (ix2 0 j) = acc (ix2 0 j) + ∑ q ∈ Finset.range 32, ind (beats x0 x1 j (32 * k.val + q)) := by
  have hk := lt160 k
  have hj := j.isLt
  rw [← Fin.sum_univ_eq_sum_range (fun q => ind (beats x0 x1 j (32 * k.val + q)))]
  unfold_payloads
  pointwise
  refine congrArg (acc (ix2 0 j) + ·) (Finset.sum_congr rfl fun q _ => ?_)
  have hq := q.isLt
  rw [rows32_apply]
  refine (select_beats _ _ ((32 * k.val + q.val) < j.val) _ ?_).trans ?_
  · have e : IntOp.addi (Scalar.muli (Scf.iv 0#32 1#32 k.val) 32#32) (BitVec.ofNat 32 q.val) = BitVec.ofNat 32 (32 * k.val + q.val) := by
      apply BitVec.eq_of_toNat_eq
      simp only [Scalar.muli, Scf.iv, IntOp.muli, IntOp.addi, BitVec.toNat_add, BitVec.toNat_mul, BitVec.toNat_ofNat]
      omega
    rw [e]
    simp only [IntOp.cmpi]
    congr 1
    rw [BitVec.slt_eq_decide]
    refine decide_eq_decide.2 ?_
    rw [BitVec.toInt_eq_toNat_of_lt (by simp only [BitVec.toNat_ofNat]; omega), BitVec.toInt_eq_toNat_of_lt (by simp only [BitVec.toNat_ofNat]; omega)]
    simp only [BitVec.toNat_ofNat]
    omega
  · congr 1
    refine propext ⟨fun h => ⟨by omega, h⟩, fun ⟨_, h⟩ => h⟩

/-- The ranks accumulated so far count the entries seen so far that come before. -/
theorem rank_sum (x0 : Vec Ideal S1x5120 .f32) (x1 : Vec Ideal S5120x1 .f32) (j : Fin 5120) : ∀ n, n ≤ k0_t1_loop.trips →
    rankAt x0 x1 n (ix2 0 j) = ∑ i ∈ Finset.range (32 * n), ind (beats x0 x1 j i)
  | 0, _ => by
    rw [Nat.mul_zero, Finset.range_zero, Finset.sum_empty]
    show k0_pay86 (ix2 0 j) = 0
    unfold_payloads
    pointwise
  | n + 1, hn => by
    have h : n < k0_t1_loop.trips := hn
    rw [rankAt, dif_pos h, rank_trip, rank_sum x0 x1 j n (by omega), Nat.mul_succ, Finset.sum_range_add]

open Classical in
/-- A sum of the numbers of propositions counts those that hold. -/
theorem sum_ind (s : Finset ℕ) (p : ℕ → Prop) : ∑ i ∈ s, ind (p i) = (((s.filter p).card : ℝ) : EReal) := by
  induction s using Finset.induction_on with
  | empty => simp
  | insert a s ha ih =>
    rw [Finset.sum_insert ha, ih, Finset.filter_insert]
    by_cases h : p a
    · rw [if_pos h, Finset.card_insert_of_notMem (fun hm => ha (Finset.mem_filter.1 hm).1), ind, if_pos h]
      push_cast
      rw [add_comm]
    · rw [if_neg h, ind, if_neg h, zero_add]

open Classical in
/-- The rank of an entry is the number of entries that come before it. -/
theorem rank_eq (x0 : Vec Ideal S1x5120 .f32) (x1 : Vec Ideal S5120x1 .f32) (j : Fin 5120) :
    rank x0 x1 (ix2 0 j) = ((((Finset.range 5120).filter (beats x0 x1 j)).card : ℝ) : EReal) := by
  rw [rank, rank_sum x0 x1 j _ le_rfl, trips1, sum_ind]

end Cert.Nms.Ker
-- ==== Proof.Kernel.lean ====
/- The block the kernel body leaves, at an index: the box of each rank, times 1 if it is kept and 0 if it is suppressed. -/
module

public import proofs.«01_k».proof.Proof.Select

@[expose] public section

set_option maxRecDepth 100000

noncomputable section

namespace Cert.Nms

/-- `i` suppresses `j`: it comes before, and the two boxes overlap. -/
def Supp (box : ℕ → Fin 4 → EReal) (i j : ℕ) : Prop := over (box i) (box j) ∧ i < j

/-- The box decoded from a corner box (entries 0 to 3) and its offsets (entries 4 to 7), clipped to the window. -/
def decode (b : Fin 8 → EReal) : Fin 4 → EReal :=
  let half := Idealize.ShloMosaic.Ideal.ofBits .f32 0x3F000000#32
  let side := Idealize.ShloMosaic.Ideal.ofBits .f32 0x44000000#32
  let h := b 2 - b 0
  let w := b 3 - b 1
  let cy := b 4 * h + (b 0 + half * h)
  let cx := b 5 * w + (b 1 + half * w)
  let ph := Idealize.ShloMosaic.Ideal.exp (b 6) * h
  let pw := Idealize.ShloMosaic.Ideal.exp (b 7) * w
  ![min side (max 0 (cy - half * ph)), min side (max 0 (cx - half * pw)), min side (max 0 (cy + half * ph)), min side (max 0 (cx + half * pw))]

end Cert.Nms

namespace Cert.Nms.Ker

open Idealize.ShloMosaic Idealize.ShloMosaic.TcCoe Idealize.ShloMosaic.Tactic
open Idealize.SL.Sem
open Cert.KernelIdeal Cert.KernelIdeal.Gen

/-- The boxes a row-wise selection holds, past its end the last one. -/
def boxAt (s : V S8x1024) (j : ℕ) : Fin 4 → EReal := boxR s ⟨min j 1023, by omega⟩

/-- Within the selection. -/
theorem boxAt_lt (s : V S8x1024) (j : ℕ) (h : j < 1024) : boxAt s j = boxR s ⟨j, h⟩ := by
  unfold boxAt
  congr
  omega

/-- The last step at an index: the selection times the kept numbers. -/
theorem pay178_apply (s : V S8x1024) (it : V S8x128) (f : Fin 8) (j : Fin 1024) :
    k0_pay178 (F := Ideal) s it (ix2 f j) = s (ix2 f j) * it (ix2 ⟨j.val / 128, by omega⟩ ⟨j.val % 128, by omega⟩) := by
  have hj := j.isLt
  unfold_payloads
  pointwise
  refine congrArg (s (ix2 f j) * ·) ?_
  split_ifs <;> (congr 2 <;> (apply Fin.ext; simp only [Fin.isValue, Fin.val_zero, Fin.val_one]; first | omega | (show _ = j.val / 128; norm_num; omega)))

/-- The body's result at an index. -/
theorem out_apply (x0 : Vec Ideal S1x5120 .f32) (x1 : Vec Ideal S5120x1 .f32) (x2 : Vec Ideal S8x5120 .f32) (f : Fin 8) (j : Fin 1024) :
    k0_pay178 (selR (pred x0 x2) (rank x0 x1))
        (keepAt (suppr (selR (pred x0 x2) (rank x0 x1)) (selC (pred x0 x2) (rank x0 x1))) k0_t2_loop.trips) (ix2 f j)
      = selR (pred x0 x2) (rank x0 x1) (ix2 f j) * ind (kept (Supp (boxAt (selR (pred x0 x2) (rank x0 x1)))) 1000 j.val) := by
  generalize hs : selR (pred x0 x2) (rank x0 x1) = s
  rw [pay178_apply, keepAt_kept (Supp (boxAt s)) _ _ k0_t2_loop.trips le_rfl, trips2]
  · rw [show 128 * (j.val / 128) + j.val % 128 = j.val from Nat.div_add_mod _ _]
  · intro i a b
    rw [suppr_apply, Supp, boxAt_lt s _ i.isLt, boxAt_lt s _ (by omega)]
    have e : ∀ f : Fin 8, selC (pred x0 x2) (rank x0 x1) (ix2 i f) = s (ix2 f i) := fun f => by rw [selC_eq, hs]
    simp only [boxC, e, boxR]

/-- The predicted boxes at an index. -/
theorem pred_box (x0 : Vec Ideal S1x5120 .f32) (x2 : Vec Ideal S8x5120 .f32) (i : Fin 5120) :
    ![pred x0 x2 (ix2 0 i), pred x0 x2 (ix2 1 i), pred x0 x2 (ix2 2 i), pred x0 x2 (ix2 3 i)] = decode fun a => x2 (ix2 a i) := by
  unfold pred decode
  unfold_payloads
  pointwise

/-- The scores beside the predicted boxes. -/
theorem pred_score (x0 : Vec Ideal S1x5120 .f32) (x2 : Vec Ideal S8x5120 .f32) (i : Fin 5120) : pred x0 x2 (ix2 4 i) = x0 (ix2 0 i) := by
  unfold pred
  unfold_payloads
  pointwise

end Cert.Nms.Ker
-- ==== Proof.KernelHost.lean ====
/- The kernel's launch: what its three operands hold, and how its result is read off the block the body leaves. -/
module

public import proofs.«01_k».proof.Proof.Kernel
public import proofs.«01_k».proof.Proof.Gen.KernelIdeal.Frame
public import Idealize.ShloMosaic.Lib.StableHlo.RunRead
public import Idealize.ShloMosaic.Lib.Pointwise

@[expose] public section

set_option maxRecDepth 100000

noncomputable section

namespace Cert.Nms.Ker

open Idealize.ShloMosaic Idealize.ShloMosaic.TcCoe Idealize.ShloMosaic.Tactic Idealize.ShloMosaic.StableHlo
open Idealize.SL.Sem
open Cert.KernelIdeal Cert.KernelIdeal.Gen

/-! ## The operands as functions of the arguments -/

/-- The scores, padded with −1. -/
def padScore (s : V S5000) : V S5120 := pad S5120 ![0] ![120] ![0] s (constant S_ .f32 0xBF800000#32) pads_S5000_S5120_01200 h_S_

/-- A table of four columns, padded with zeros and laid on its side. -/
def padTable (t : V S5000x4) : V S4x5120 :=
  transpose S4x5120 [1, 0] (pad S5120x4 ![0, 0] ![120, 0] ![0, 0] t (sitofp .f32 (constantI S_ 32 0#32)) pads_S5000x4_S5120x4_01200_000 h_S_)
    transposes_S5120x4_S4x5120_1_0

/-- The padded scores as a row. -/
def arg0 (s : V S5000) : V S1x5120 := shapeCast S1x5120 (padScore s) shapeCasts_S5120_S1x5120

/-- The padded scores as a column. -/
def arg1 (s : V S5000) : V S5120x1 := shapeCast S5120x1 (padScore s) shapeCasts_S5120_S5120x1

/-- The boxes above their offsets. -/
def arg2 (b d : V S5000x4) : V S8x5120 :=
  concatenate S8x5120 0 [⟨S4x5120, padTable b⟩, ⟨S4x5120, padTable d⟩] concatenates_S4x5120_S4x5120_S8x5120_d0

/-- The score at a padded position. -/
def scoreAt (s : V S5000) (i : ℕ) : EReal := if h : i < 5000 then s (ix1 ⟨i, h⟩) else Ideal.ofBits .f32 0xBF800000#32

theorem padScore_apply (s : V S5000) (i : Fin 5120) : padScore s (ix1 i) = scoreAt s i.val := by
  unfold padScore scoreAt
  pointwise

theorem arg0_apply (s : V S5000) (i : Fin 5120) : arg0 s (ix2 0 i) = scoreAt s i.val := by
  rw [← padScore_apply]
  unfold arg0
  pointwise

theorem arg1_apply (s : V S5000) (i : Fin 5120) : arg1 s (ix2 i 0) = scoreAt s i.val := by
  rw [← padScore_apply]
  unfold arg1
  pointwise

/-- The table of eight rows, at a position before the padding: the box, then its offsets. -/
theorem arg2_apply (b d : V S5000x4) (i : Fin 5000) :
    (fun a => arg2 b d (ix2 a ⟨i.val, by omega⟩))
      = ![b (ix2 i 0), b (ix2 i 1), b (ix2 i 2), b (ix2 i 3), d (ix2 i 0), d (ix2 i 1), d (ix2 i 2), d (ix2 i 3)] := by
  funext a
  fin_cases a <;> (simp only [arg2, padTable]; pointwise; try rfl)

/-- The result, read off the block. -/
def result (o : V S8x1024) : V S1000x5 :=
  extractStridedSlice S1000x5 ![0, 0] (transpose S1024x8 [1, 0] o transposes_S8x1024_S1024x8_1_0) slices_S1024x8_S1000x5_0_0

theorem result_apply (o : V S8x1024) (j : Fin 1000) (f : Fin 5) :
    result o (ix2 j f) = o (ix2 ⟨f.val, by omega⟩ ⟨j.val, by omega⟩) := by
  unfold result
  pointwise

/-! ## The launch -/

variable (m : (ℓ : Loc nD τ sig) → Buf (Elt Ideal) ℓ) (c : Dev nD)

/-- The boxes, the offsets and the scores as launched. -/
def boxes : V S5000x4 := m ((c : Thread nD τ).loc main_arg0)
def deltas : V S5000x4 := m ((c : Thread nD τ).loc main_arg1)
def scores : V S5000 := m ((c : Thread nD τ).loc main_arg2)

theorem entry_v1 : V0 m c (Proc.devRef .tc main_v1) = arg0 (scores m c) := by
  simp only [V0, List.flatten_cons, List.flatten_nil, List.append_nil, List.cons_append, List.nil_append]
  after_reads_simp
  rfl

theorem entry_v2 : V0 m c (Proc.devRef .tc main_v2) = arg1 (scores m c) := by
  simp only [V0, List.flatten_cons, List.flatten_nil, List.append_nil, List.cons_append, List.nil_append]
  after_reads_simp
  rfl

theorem entry_v7 : V0 m c (Proc.devRef .tc main_v7) = arg2 (boxes m c) (deltas m c) := by
  simp only [V0, List.flatten_cons, List.flatten_nil, List.append_nil, List.cons_append, List.nil_append]
  after_reads_simp
  rfl

theorem block0 : iblk m c 0 t0_0 = V0 m c (Proc.devRef .tc main_v1) :=
  Memref.read_access_unit_zero (Elt Ideal) main_v1
    (show (fun a => (win0_0.index t0_0) a * main_v1.ty.shape.size a) = fun _ => 0 from
      funext fun a => by fin_cases a <;> decide) (fun a => by fin_cases a <;> decide) _

theorem block1 : iblk m c 1 t0_0 = V0 m c (Proc.devRef .tc main_v2) :=
  Memref.read_access_unit_zero (Elt Ideal) main_v2
    (show (fun a => (win0_1.index t0_0) a * main_v2.ty.shape.size a) = fun _ => 0 from
      funext fun a => by fin_cases a <;> decide) (fun a => by fin_cases a <;> decide) _

theorem block2 : iblk m c 2 t0_0 = V0 m c (Proc.devRef .tc main_v7) :=
  Memref.read_access_unit_zero (Elt Ideal) main_v7
    (show (fun a => (win0_2.index t0_0) a * main_v7.ty.shape.size a) = fun _ => 0 from
      funext fun a => by fin_cases a <;> decide) (fun a => by fin_cases a <;> decide) _

theorem read_block3 (f : Buf (Elt Ideal) ((c : Thread nD τ).loc main_v8)) :
    (win0_3.blk t0_0).view.read (Elt Ideal) f = f :=
  Memref.read_access_unit_zero (Elt Ideal) main_v8
    (show (fun a => (win0_3.index t0_0) a * main_v8.ty.shape.size a) = fun _ => 0 from
      funext fun a => by fin_cases a <;> decide) (fun a => by fin_cases a <;> decide) f

/-- The block the body leaves, over the launched arguments. -/
def block (b d : V S5000x4) (s : V S5000) : V S8x1024 :=
  let sr := selR (pred (arg0 s) (arg2 b d)) (rank (arg0 s) (arg1 s))
  let sc := selC (pred (arg0 s) (arg2 b d)) (rank (arg0 s) (arg1 s))
  k0_pay178 sr (keepAt (suppr sr sc) k0_t2_loop.trips)

theorem outs_eq : outsAt0 m c t0_0 = block (boxes m c) (deltas m c) (scores m c) := by
  unfold outsAt0 block
  rw [out_eq, block0, block1, block2, entry_v1, entry_v2, entry_v7]

theorem arr_eq : (dats m 0 c).arrAt 3 cfg0.N = block (boxes m c) (deltas m c) (scores m c) := by
  have hw : ((cfg0.win 3).blk t0_0).view.read (Elt Ideal) ((dats m 0 c).arrAt 3 cfg0.N) = (dats m 0 c).flushed 3 t0_0 := by
    rw [show cfg0.N = t0_0.val + 1 from rfl, (dats m 0 c).arrAt_succ (3 : Fin 4) t0_0, flush0_3, if_pos rfl]
    exact View.read_write_univ _ _
  have hf : (dats m 0 c).flushed 3 t0_0 = block (boxes m c) (deltas m c) (scores m c) := by
    show (cfg0.win 3).cut _ ((dats m 0 c).after 3 t0_0) = _
    rw [after0_3, outs_eq]
    exact funext fun _ => rfl
  rw [hf] at hw
  exact (read_block3 c _).symm.trans hw

theorem exit_v10 : Pipeline.afterTail₀ cfgs (dats m) 0 (V0 m) [hostOps1] c main_v10
    = result (block (boxes m c) (deltas m c) (scores m c)) := by
  unfold Pipeline.afterTail₀
  simp only [List.flatten_cons, List.flatten_nil, List.append_nil]
  after_reads_simp
  rw [← arr_eq]
  exact congrArg result (Pipeline.withArrays_arr spec0 winFacts0.arr_inj c (V0 m c) (fun w => (dats m 0 c).arrAt w cfg0.N) 3)

/-- The kernel's run: every device's result is read off its block, and the arguments end as launched. -/
theorem run (ρ : Dev nD → PrngReg) :
    θ_run defs (onTc (τ := τ) (main (F := Ideal))) ⟨m, fun _ => 0, ρ⟩ (fun r => ∀ c : Dev nD,
      r.2.mem ((c.tc : Thread nD τ).loc main_v10) = result (block (boxes m c) (deltas m c) (scores m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v10 (Pipeline.mem_restRefs_of main_v10 (by decide) (by decide))).trans (exit_v10 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩) (run_main m ρ)

end Cert.Nms.Ker

end
-- ==== Proof.Sort.lean ====
/- The order the boxes are taken in: greater score first, equal scores by position. What a stable sort by the score
   leaves is in this order, and a position's place in it is the number of positions ahead of it. -/
module

public import proofs.«01_k».proof.Proof.KernelHost
public import Idealize.ShloMosaic.Lib.SortFacts

@[expose] public section

set_option maxRecDepth 100000

noncomputable section

namespace Cert.Nms

open Idealize.ShloMosaic

/-! ## A stable sort by a key -/

section Sorting

variable {n : ℕ} (x : Fin n → EReal)

/-- `a` is ahead of `b`: its key is greater, or the keys are equal and it stands first. -/
def Ahead (a b : Fin n) : Prop := x b < x a ∨ (x a = x b ∧ a < b)

/-- The comparator: the greater key first. -/
def greater (a b : Fin n) : Bool := decide (x b < x a)

theorem ahead_trans {a b c : Fin n} (h : Ahead x a b) (h' : Ahead x b c) : Ahead x a c := by
  rcases h with h | ⟨h, hp⟩ <;> rcases h' with h' | ⟨h', hp'⟩
  · exact .inl (h'.trans h)
  · exact .inl (h' ▸ h)
  · exact .inl (h ▸ h')
  · exact .inr ⟨h.trans h', hp.trans hp'⟩

theorem ahead_irrefl (a : Fin n) : ¬Ahead x a a := by
  rintro (h | ⟨_, h⟩) <;> exact lt_irrefl _ h

theorem ahead_total {a b : Fin n} (h : a ≠ b) : Ahead x a b ∨ Ahead x b a := by
  rcases lt_trichotomy (x a) (x b) with hx | hx | hx
  · exact .inr (.inl hx)
  · rcases lt_or_gt_of_ne h with hp | hp
    · exact .inl (.inr ⟨hx, hp⟩)
    · exact .inr (.inr ⟨hx.symm, hp⟩)
  · exact .inl (.inl hx)

/-- Inserting a position that stands before all of an ordered list leaves it ordered. -/
theorem insert_ordered (a : Fin n) : ∀ l : List (Fin n), l.Pairwise (Ahead x) → (∀ b ∈ l, a < b) →
    (insertBefore (greater x) a l).Pairwise (Ahead x)
  | [], _, _ => by simp [insertBefore]
  | b :: l, hl, ha => by
    rw [List.pairwise_cons] at hl
    unfold insertBefore
    by_cases hb : x a < x b
    · rw [if_pos (by simpa [greater] using hb), List.pairwise_cons]
      refine ⟨fun d hd => ?_, insert_ordered a l hl.2 fun d hd => ha d (List.mem_cons_of_mem _ hd)⟩
      rcases List.mem_cons.1 ((perm_insertBefore (greater x) a l).mem_iff.1 hd) with rfl | hd
      · exact .inl hb
      · exact hl.1 d hd
    · rw [if_neg (by simpa [greater] using hb), List.pairwise_cons]
      have hab : Ahead x a b := by
        rcases lt_or_eq_of_le (not_lt.1 hb) with h | h
        · exact .inl h
        · exact .inr ⟨h.symm, ha b List.mem_cons_self⟩
      refine ⟨fun d hd => ?_, List.pairwise_cons.2 hl⟩
      rcases List.mem_cons.1 hd with rfl | hd
      · exact hab
      · exact ahead_trans x hab (hl.1 d hd)

/-- A stable sort of an increasing list of positions is ordered. -/
theorem sort_ordered : ∀ l : List (Fin n), l.Pairwise (· < ·) → (stableSort (greater x) l).Pairwise (Ahead x)
  | [], _ => by simp [stableSort]
  | a :: l, h => by
    rw [List.pairwise_cons] at h
    exact insert_ordered x a _ (sort_ordered l h.2) fun b hb => h.1 b ((perm_stableSort (greater x) l).mem_iff.1 hb)

/-- Of two places of the sorted positions the earlier is ahead. -/
theorem sorted_ahead {i j : Fin n} (h : i < j) : Ahead x (sortedFrom (greater x) i) (sortedFrom (greater x) j) :=
  List.pairwise_iff_get.1 (sort_ordered x _ (List.pairwise_lt_finRange n)) _ _ (show i.val < j.val from h)

/-- Being ahead of the `j`-th of the sorted positions is being one of the earlier ones. -/
theorem ahead_sorted_iff (b j : Fin n) : Ahead x (sortedFrom (greater x) b) (sortedFrom (greater x) j) ↔ b < j := by
  refine ⟨fun h => ?_, sorted_ahead x⟩
  by_contra hb
  rcases lt_or_eq_of_le (not_lt.1 hb) with h' | h'
  · exact ahead_irrefl x _ (ahead_trans x h (sorted_ahead x h'))
  · subst h'
    exact ahead_irrefl x _ h

open Classical in
/-- The positions ahead of the `j`-th of the sorted positions are `j` in number. -/
theorem card_sorted (j : Fin n) : (Finset.univ.filter fun b => Ahead x b (sortedFrom (greater x) j)).card = j.val := by
  have hb : Function.Bijective (sortedFrom (greater x)) := ⟨sortedFrom_injective _, sortedFrom_surjective _⟩
  have : (Finset.univ.filter fun b => Ahead x b (sortedFrom (greater x) j)) = (Finset.Iio j).image (sortedFrom (greater x)) := by
    ext b
    obtain ⟨a, rfl⟩ := hb.2 b
    simp only [Finset.mem_filter, Finset.mem_univ, true_and, Finset.mem_image, Finset.mem_Iio, ahead_sorted_iff]
    exact ⟨fun h => ⟨a, h, rfl⟩, fun ⟨d, hd, e⟩ => hb.1 e ▸ hd⟩
  rw [this, Finset.card_image_of_injective _ hb.1, Fin.card_Iio]

open Classical in
/-- Positions with as many positions ahead of them are the same. -/
theorem card_inj {a b : Fin n} (h : (Finset.univ.filter fun d => Ahead x d a).card = (Finset.univ.filter fun d => Ahead x d b).card) :
    a = b := by
  have key : ∀ a b : Fin n, Ahead x a b →
      (Finset.univ.filter fun d => Ahead x d a).card < (Finset.univ.filter fun d => Ahead x d b).card := fun a b hab =>
    Finset.card_lt_card ⟨fun d hd => by
      simp only [Finset.mem_filter, Finset.mem_univ, true_and] at hd ⊢
      exact ahead_trans x hd hab, fun hs => by
      have := hs (show a ∈ _ by simpa using hab)
      simp only [Finset.mem_filter, Finset.mem_univ, true_and] at this
      exact ahead_irrefl x a this⟩
  by_contra hne
  rcases ahead_total x hne with h' | h'
  · exact absurd h (key a b h').ne
  · exact absurd h.symm (key b a h').ne

end Sorting

/-! ## The best thousand -/

namespace Ker

open Cert.KernelIdeal Idealize.ShloMosaic.Tactic

/-- The position with the `j`-th score. -/
def place (s : V S5000) : Fin 5000 → Fin 5000 := sortedFrom (greater fun k => s (ix1 k))

/-- The same for one of the best thousand. -/
def best (s : V S5000) (j : Fin 1000) : Fin 5000 := place s ⟨j.val, by omega⟩

theorem sort_eq (s : V S5000) (p : S5000.Idx) :
    sortedFrom (n := 5000) (fun k k' => FloatOps.cmpfTotal (F := Ideal) (φ := .f32) .gt (s (p.along 0 k)) (s (p.along 0 k')) == 1#1) = place s := by
  unfold place
  congr 1
  funext k k'
  rw [Shape.Idx.along_rank1, Shape.Idx.along_rank1, eq_ix1 (Shape.Idx.ofFin k), eq_ix1 (Shape.Idx.ofFin k')]
  show (BitVec.ofBool (decide (s (ix1 k') < s (ix1 k))) == 1#1) = decide (s (ix1 k') < s (ix1 k))
  cases decide (s (ix1 k') < s (ix1 k)) <;> rfl

theorem topK_values (s : V S5000) (h : S5000.Slices (fun _ => 0) ⟨1, ![1000]⟩) (j : Fin 1000) :
    (Host.topK ⟨1, ![1000]⟩ 0 (FloatOps.cmpfTotal .gt) s h).1 (ix1 j) = s (ix1 (best s j)) := by
  unfold Host.topK Host.sort2
  simp only [dif_pos (show 0 < S5000.rank from Nat.one_pos)]
  pointwise
  rw [sort_eq, Shape.Idx.along_rank1, eq_ix1 (Shape.Idx.ofFin _), Shape.Idx.ofFin_zero, best]

theorem topK_indices (s : V S5000) (h : S5000.Slices (fun _ => 0) ⟨1, ![1000]⟩) (j : Fin 1000) :
    (Host.topK ⟨1, ![1000]⟩ 0 (FloatOps.cmpfTotal .gt) s h).2 (ix1 j) = BitVec.ofNat 32 (best s j).val := by
  unfold Host.topK Host.sort2
  simp only [dif_pos (show 0 < S5000.rank from Nat.one_pos)]
  pointwise
  rw [sort_eq, Shape.Idx.along_rank1, Shape.Idx.ofFin_zero, best]

theorem beats_iff (s : V S5000) (j : Fin 5120) (i : ℕ) :
    beats (arg0 s) (arg1 s) j i ↔ ∃ h : i < 5120, Ahead (fun k : Fin 5120 => scoreAt s k.val) ⟨i, h⟩ j := by
  unfold beats Ahead
  simp only [arg0_apply, arg1_apply]
  rfl

open Classical in
/-- A position's rank is the number of positions ahead of it. -/
theorem rank_card (s : V S5000) (j : Fin 5120) : rank (arg0 s) (arg1 s) (ix2 0 j)
    = (((Finset.univ.filter fun b => Ahead (fun k : Fin 5120 => scoreAt s k.val) b j).card : ℝ) : EReal) := by
  rw [rank_eq]
  congr 2
  refine (Finset.card_bij (fun b _ => b.val) (fun b hb => ?_) (fun _ _ _ _ e => Fin.ext e) fun i hi => ?_).symm
  · simp only [Finset.mem_filter, Finset.mem_univ, true_and] at hb
    exact Finset.mem_filter.2 ⟨Finset.mem_range.2 b.isLt, (beats_iff s j _).2 ⟨b.isLt, hb⟩⟩
  · obtain ⟨_, hi⟩ := Finset.mem_filter.1 hi
    obtain ⟨h, hi⟩ := (beats_iff s j i).1 hi
    exact ⟨⟨i, h⟩, by simpa using hi, rfl⟩

/-- A position before the padding. -/
def pos (i : Fin 5000) : Fin 5120 := ⟨i.val, by omega⟩

theorem scoreAt_pos (s : V S5000) (i : Fin 5000) : scoreAt s (pos i).val = s (ix1 i) := by
  unfold scoreAt
  exact dif_pos i.isLt

theorem ahead_pos (s : V S5000) (a b : Fin 5000) :
    Ahead (fun k : Fin 5120 => scoreAt s k.val) (pos a) (pos b) ↔ Ahead (fun k => s (ix1 k)) a b := by
  unfold Ahead
  beta_reduce
  rw [scoreAt_pos, scoreAt_pos]
  exact Iff.rfl

/-- No position of the padding is ahead of one before it. -/
theorem ahead_padding (s : V S5000) (hs : ∀ i, Ideal.ofBits .f32 0xBF800000#32 ≤ s (ix1 i)) (i : Fin 5120) (b : Fin 5000)
    (h : Ahead (fun k : Fin 5120 => scoreAt s k.val) i (pos b)) : i.val < 5000 := by
  by_contra hc
  have hv : scoreAt s i.val = Ideal.ofBits .f32 0xBF800000#32 := dif_neg hc
  rcases h with h | ⟨_, h⟩
  · beta_reduce at h
    rw [scoreAt_pos, hv] at h
    exact absurd h (not_lt.2 (hs _))
  · have : i.val < b.val := h
    have := b.isLt
    omega

open Classical in
/-- So as many of all the positions are ahead of it as of those before the padding. -/
theorem card_pos (s : V S5000) (hs : ∀ i, Ideal.ofBits .f32 0xBF800000#32 ≤ s (ix1 i)) (b : Fin 5000) :
    (Finset.univ.filter fun a => Ahead (fun k : Fin 5120 => scoreAt s k.val) a (pos b)).card
      = (Finset.univ.filter fun a => Ahead (fun k => s (ix1 k)) a b).card := by
  have hinj : Function.Injective pos := fun a a' e => Fin.ext (congrArg (fun q : Fin 5120 => q.val) e)
  rw [← Finset.card_image_of_injective _ hinj]
  congr 1
  ext i
  rw [Finset.mem_filter, Finset.mem_image]
  constructor
  · rintro ⟨_, hi⟩
    have h5 := ahead_padding s hs i b hi
    exact ⟨⟨i.val, h5⟩, Finset.mem_filter.2 ⟨Finset.mem_univ _, (ahead_pos s ⟨i.val, h5⟩ b).1 hi⟩, rfl⟩
  · rintro ⟨a, ha, rfl⟩
    exact ⟨Finset.mem_univ _, (ahead_pos s a b).2 (Finset.mem_filter.1 ha).2⟩

open Classical in
/-- The positions ahead of the `j`-th score are `j` in number. -/
theorem card_best (s : V S5000) (hs : ∀ i, Ideal.ofBits .f32 0xBF800000#32 ≤ s (ix1 i)) (j : Fin 1000) :
    (Finset.univ.filter fun b => Ahead (fun k : Fin 5120 => scoreAt s k.val) b (pos (best s j))).card = j.val := by
  rw [card_pos s hs]
  unfold best place
  rw [card_sorted (n := 5000) (fun k => s (ix1 k)) ⟨j.val, by omega⟩]

/-- The position with rank `j` is the one with the `j`-th score. -/
theorem rank_iff (s : V S5000) (hs : ∀ i, Ideal.ofBits .f32 0xBF800000#32 ≤ s (ix1 i)) (j : Fin 1000) (a : Fin 5120) :
    rank (arg0 s) (arg1 s) (ix2 0 a) = ((j.val : ℝ) : EReal) ↔ a = pos (best s j) := by
  classical
  rw [rank_card, EReal.coe_eq_coe_iff, Nat.cast_inj]
  refine ⟨fun h => card_inj _ (h.trans (card_best s hs j).symm), fun h => h ▸ card_best s hs j⟩

end Ker

end Cert.Nms

end
-- ==== Proof.KernelValue.lean ====
/- The kernel's result at an index: each of the best thousand boxes, with its score, times 1 if it is kept and 0 if not. -/
module

public import proofs.«01_k».proof.Proof.KernelHost
public import proofs.«01_k».proof.Proof.Sort

@[expose] public section

set_option maxRecDepth 100000

noncomputable section

namespace Cert.Nms

/-- The kept positions below `N` depend only on which positions below `N` suppress which. -/
theorem kept_congr {O O' : ℕ → ℕ → Prop} {N : ℕ} (h : ∀ i j, i < N → j < N → (O i j ↔ O' i j)) :
    ∀ n j, n ≤ N → j < N → (kept O n j ↔ kept O' n j)
  | 0, _, _, _ => Iff.rfl
  | n + 1, j, hn, hj => and_congr (kept_congr h n j (by omega) hj)
    (not_congr (and_congr (h n j (by omega) hj) (kept_congr h n n (by omega) (by omega))))

end Cert.Nms

namespace Cert.Nms.Ker

open Idealize.ShloMosaic Idealize.ShloMosaic.TcCoe Idealize.ShloMosaic.Tactic
open Idealize.SL.Sem
open Cert.KernelIdeal Cert.KernelIdeal.Gen

variable (b d : V S5000x4) (s : V S5000)

/-- The best box of rank `j`, decoded and clipped, past the thousandth the thousandth. -/
def bestBox (j : ℕ) : Fin 4 → EReal :=
  let i := best s ⟨min j 999, by omega⟩
  decode ![b (ix2 i 0), b (ix2 i 1), b (ix2 i 2), b (ix2 i 3), d (ix2 i 0), d (ix2 i 1), d (ix2 i 2), d (ix2 i 3)]

/-- Within the thousand. -/
theorem bestBox_lt (j : Fin 1000) : bestBox b d s j.val
    = decode ![b (ix2 (best s j) 0), b (ix2 (best s j) 1), b (ix2 (best s j) 2), b (ix2 (best s j) 3),
        d (ix2 (best s j) 0), d (ix2 (best s j) 1), d (ix2 (best s j) 2), d (ix2 (best s j) 3)] := by
  have : (⟨min j.val 999, by omega⟩ : Fin 1000) = j := Fin.ext (by have := j.isLt; show min j.val 999 = j.val; omega)
  unfold bestBox
  rw [this]

variable (hs : ∀ i, Ideal.ofBits .f32 0xBF800000#32 ≤ s (ix1 i))

/-- The selection by rank, over the launched arguments. -/
def chosen : V S8x1024 := selR (pred (arg0 s) (arg2 b d)) (rank (arg0 s) (arg1 s))

include hs in
/-- It holds, at rank `j`, the predicted row of the `j`-th best score. -/
theorem chosen_apply (j : Fin 1000) (f : Fin 8) :
    chosen b d s (ix2 f ⟨j.val, by omega⟩) = pred (arg0 s) (arg2 b d) (ix2 f (pos (best s j))) :=
  selR_eq _ _ f ⟨j.val, by omega⟩ (pos (best s j)) (rank_iff s hs j)

include hs in
/-- Its first four rows are the corners of the best boxes. -/
theorem chosen_box (j : Fin 1000) : boxAt (chosen b d s) j.val = bestBox b d s j.val := by
  rw [boxAt_lt _ _ (by omega), bestBox_lt, boxR]
  simp only [chosen_apply b d s hs]
  rw [pred_box]
  exact congrArg decode (arg2_apply b d (best s j))

include hs in
/-- Its fifth row is their scores. -/
theorem chosen_score (j : Fin 1000) : chosen b d s (ix2 4 ⟨j.val, by omega⟩) = s (ix1 (best s j)) := by
  rw [chosen_apply b d s hs, pred_score, arg0_apply, scoreAt_pos]

include hs in
/-- The result at an index. -/
theorem result_value (j : Fin 1000) (f : Fin 5) :
    result (block b d s) (ix2 j f)
      = (![bestBox b d s j.val 0, bestBox b d s j.val 1, bestBox b d s j.val 2, bestBox b d s j.val 3, s (ix1 (best s j))] f : EReal)
          * ind (kept (Supp (bestBox b d s)) 1000 j.val) := by
  have hk : kept (Supp (boxAt (chosen b d s))) 1000 j.val ↔ kept (Supp (bestBox b d s)) 1000 j.val :=
    kept_congr (N := 1000) (fun i k hi hk => by
      unfold Supp
      rw [show boxAt (chosen b d s) i = _ from chosen_box b d s hs ⟨i, hi⟩, show boxAt (chosen b d s) k = _ from chosen_box b d s hs ⟨k, hk⟩])
      1000 j.val le_rfl j.isLt
  have hv : chosen b d s (ix2 ⟨f.val, by omega⟩ ⟨j.val, by omega⟩)
      = (![bestBox b d s j.val 0, bestBox b d s j.val 1, bestBox b d s j.val 2, bestBox b d s j.val 3, s (ix1 (best s j))] f : EReal) := by
    have h := chosen_box b d s hs j
    rw [boxAt_lt _ _ (by omega), boxR] at h
    rw [← h]
    fin_cases f
    · rfl
    · rfl
    · rfl
    · rfl
    · exact chosen_score b d s hs j
  rw [result_apply, ← hv, ← propext hk]
  exact out_apply (arg0 s) (arg1 s) (arg2 b d) ⟨f.val, by omega⟩ ⟨j.val, by omega⟩

end Cert.Nms.Ker

end
-- ==== Proof.RefValue.lean ====
/- What the reference computes before its loop: the decoded boxes, the best thousand of them, and their overlaps. -/
module

public import proofs.«01_k».proof.Proof.RefRun
public import proofs.«01_k».proof.Proof.Sort
public import Idealize.ShloMosaic.Lib.StableHlo.ReadAt
public import Idealize.ShloMosaic.Lib.Pointwise
public import Idealize.ShloMosaic.Lib.Routing.Ops

@[expose] public section

set_option maxRecDepth 100000

noncomputable section

namespace Cert.Nms.Ref

open Idealize.ShloMosaic Idealize.ShloMosaic.TcCoe Idealize.ShloMosaic.Tactic
open Idealize.SL.Sem
open Idealize.ShloMosaic.StableHlo Idealize.ShloMosaic.HostLoop
open Cert.ReferenceIdeal Cert.ReferenceIdeal.Gen Cert.ReferenceIdeal.Value

/-- The float arrays of a shape, over the extended reals. -/
abbrev V (s : Shape) := FVec Ideal s .f32

/-! ## The lines before the loop, each over any contents before it -/

section Lines

variable (W : Valuation τ sig (Elt Ideal))

/-- Row `i` of the boxes and of the offsets. -/
def rowOf (b d : V S5000x4) (i : Fin 5000) : Fin 8 → EReal :=
  ![b (ix2 i 0), b (ix2 i 1), b (ix2 i 2), b (ix2 i 3), d (ix2 i 0), d (ix2 i 1), d (ix2 i 2), d (ix2 i 3)]

/-- The box decoded from a corner box and its offsets, before it is clipped. -/
def corners (b : Fin 8 → EReal) : Fin 4 → EReal :=
  let half := Ideal.ofBits .f32 0x3F000000#32
  let h := b 2 - b 0
  let w := b 3 - b 1
  let cy := b 4 * h + (b 0 + half * h)
  let cx := b 5 * w + (b 1 + half * w)
  let ph := Ideal.exp (b 6) * h
  let pw := Ideal.exp (b 7) * w
  ![cy - half * ph, cx - half * pw, cy + half * ph, cx + half * pw]

theorem decode_corners (b : Fin 8 → EReal) :
    decode b = fun f => min (Ideal.ofBits .f32 0x44000000#32) (max 0 (corners b f)) := by
  funext f
  fin_cases f <;> rfl

theorem line_v48 (i : Fin 5000) (f : Fin 4) : (after hostOps0 W (Proc.devRef .tc main_v48) : V S5000x4) (ix2 i f)
    = corners (rowOf (W (Proc.devRef .tc main_arg0)) (W (Proc.devRef .tc main_arg1)) i) f := by
  fin_cases f <;> (after_reads_simp; simp only [Matrix.cons_val]; after_reads_simp; pointwise; rfl)

theorem line_v50 : after hostOps0 W (Proc.devRef .tc main_v50)
    = shapeCast S5000 (extractStridedSlice S5000x1 ![0, 0] (after hostOps0 W (Proc.devRef .tc main_v48) : V S5000x4) slices_S5000x4_S5000x1_0_0)
        shapeCasts_S5000x1_S5000 := by
  after_reads_simp
  rfl

theorem line_cst_5 : after hostOps0 W (Proc.devRef .tc main_cst_5) = (constant S_ .f32 0x00000000#32 : V S_) := by
  after_reads_simp

theorem line_cst_6 : after hostOps0 W (Proc.devRef .tc main_cst_6) = (constant S_ .f32 0x44000000#32 : V S_) := by
  after_reads_simp

/-- The clip's four calls and the table of their results. -/
theorem lines_v65 (h50 : W (Proc.devRef .tc main_v50)
      = shapeCast S5000 (extractStridedSlice S5000x1 ![0, 0] (W (Proc.devRef .tc main_v48) : V S5000x4) slices_S5000x4_S5000x1_0_0)
          shapeCasts_S5000x1_S5000)
    (h5 : W (Proc.devRef .tc main_cst_5) = (constant S_ .f32 0x00000000#32 : V S_))
    (h6 : W (Proc.devRef .tc main_cst_6) = (constant S_ .f32 0x44000000#32 : V S_)) (i : Fin 5000) (f : Fin 4) :
    (after hostOps0_8 (after hostOps0_7 (after hostOps0_6 (after hostOps0_5 (after hostOps0_4 (after hostOps0_3 (after hostOps0_2
        (after hostOps0_1 W))))))) (Proc.devRef .tc main_v65) : V S5000x4) (ix2 i f)
      = min (Ideal.ofBits .f32 0x44000000#32) (max 0 ((W (Proc.devRef .tc main_v48) : V S5000x4) (ix2 i f))) := by
  fin_cases f <;> (
    after_reads_simp
    simp only [Matrix.cons_val]
    after_reads_simp
    simp -implicitDefEqProofs only [StableHlo.TRef.toBuf, StableHlo.TRef.ofBuf, cast_eq, id_eq, h50, h5, h6]
    pointwise)

/-- The indices of the best thousand, as the gather takes them. -/
def starts (s : V S5000) : IVec S1000x1 32 :=
  let k := (Host.topK S1000 0 (FloatOps.cmpfTotal .gt) s sliceFits_S5000_S1000).2
  broadcastInDim S1000x1 ![0] bcast_S1000_S1000x1_0
    (select (cmpi .slt k (broadcastInDim S1000 ![] bcast_S_S1000 (constantI S_ 32 0#32)))
      (addi k (broadcastInDim S1000 ![] bcast_S_S1000 (constantI S_ 32 5000#32))) k)

theorem line_v72 : after hostOps0_8 W (Proc.devRef .tc main_v72)
    = Host.gather gather_S5000x4_S1000x1_S1000x4_1_0_n_n_0_1_14 (after hostOps0_8 W (Proc.devRef .tc main_v65) : V S5000x4)
        (starts (W (Proc.devRef .tc main_arg2))) := by
  after_reads_simp
  rfl

theorem line_values : after hostOps0_8 W (Proc.devRef .tc main_values)
    = ((Host.topK S1000 0 (FloatOps.cmpfTotal .gt) (W (Proc.devRef .tc main_arg2) : V S5000) sliceFits_S5000_S1000).1 : V S1000) := by
  after_reads_simp

/-- The overlaps of a table's boxes. -/
def overlaps (t : V S1000x4) : V S1000x1000 :=
  let c0 := shapeCast S1000 (extractStridedSlice S1000x1 ![0, 0] t slices_S1000x4_S1000x1_0_0) shapeCasts_S1000x1_S1000
  let c1 := shapeCast S1000 (extractStridedSlice S1000x1 ![0, 1] t slices_S1000x4_S1000x1_0_1) shapeCasts_S1000x1_S1000
  let c2 := shapeCast S1000 (extractStridedSlice S1000x1 ![0, 2] t slices_S1000x4_S1000x1_0_2) shapeCasts_S1000x1_S1000
  let c3 := shapeCast S1000 (extractStridedSlice S1000x1 ![0, 3] t slices_S1000x4_S1000x1_0_3) shapeCasts_S1000x1_S1000
  let down (x : V S1000) : V S1000x1000 :=
    broadcastInDim S1000x1000 ![0, 1] bcast_S1000x1_S1000x1000_0_1 (broadcastInDim S1000x1 ![0] bcast_S1000_S1000x1_0 x)
  let along (x : V S1000) : V S1000x1000 :=
    broadcastInDim S1000x1000 ![0, 1] bcast_S1x1000_S1000x1000_0_1 (broadcastInDim S1x1000 ![1] bcast_S1000_S1x1000_1 x)
  let z1 : V S1000 := broadcastInDim S1000 ![] bcast_S_S1000 (constant S_ .f32 0x00000000#32)
  let z2 : V S1000x1000 := broadcastInDim S1000x1000 ![] bcast_S_S1000x1000 (constant S_ .f32 0x00000000#32)
  let a := mulf (maximumf (subf c2 c0) z1) (maximumf (subf c3 c1) z1)
  let n := mulf (maximumf (subf (minimumf (down c2) (along c2)) (maximumf (down c0) (along c0))) z2)
    (maximumf (subf (minimumf (down c3) (along c3)) (maximumf (down c1) (along c1))) z2)
  Host.divf n (addf (subf (addf (down a) (along a)) n) (broadcastInDim S1000x1000 ![] bcast_S_S1000x1000 (constant S_ .f32 0x358637BD#32)))

theorem line_v123 : after hostOps0_8 W (Proc.devRef .tc main_v123) = overlaps (after hostOps0_8 W (Proc.devRef .tc main_v72)) := by
  after_reads_simp
  rfl

theorem overlaps_apply (t : V S1000x4) (i j : Fin 1000) :
    Ideal.ofBits .f32 0x3F000000#32 < overlaps t (ix2 i j) ↔ over (fun f => t (ix2 i f)) (fun f => t (ix2 j f)) := by
  unfold overlaps over common area
  pointwise

theorem starts_apply (s : V S5000) (j : Fin 1000) : starts s (ix2 j 0) = BitVec.ofNat 32 (Ker.best s j).val := by
  have h : ∀ n < 5000, BitVec.slt (BitVec.ofNat 32 n) 0#32 = false := fun n hn => by
    rw [BitVec.slt_eq_decide, decide_eq_false_iff_not, BitVec.toInt_eq_toNat_of_lt (by rw [BitVec.toNat_ofNat]; omega)]
    rw [BitVec.toNat_ofNat]
    show ¬(((n % 2 ^ 32 : ℕ) : ℤ) < 0)
    omega
  unfold starts
  pointwise
  have hk := Ker.topK_indices s sliceFits_S5000_S1000 j
  rw [show (Host.topK S1000 0 (FloatOps.cmpfTotal .gt) s sliceFits_S5000_S1000).2 (ix1 j) = _ from hk]
  rw [show IntOp.cmpi .slt (BitVec.ofNat 32 (Ker.best s j).val) 0#32 = 0#1 from congrArg BitVec.ofBool (h _ (Ker.best s j).isLt)]
  rfl

theorem gather_apply (t : V S5000x4) (s : V S5000) (j : Fin 1000) (f : Fin 4) :
    Host.gather gather_S5000x4_S1000x1_S1000x4_1_0_n_n_0_1_14 t (starts s) (ix2 j f) = t (ix2 (Ker.best s j) f) :=
  Routing.gather_row _ rfl rfl rfl rfl rfl t (starts s) j f (Ker.best s j) (starts_apply s j) (by decide)

end Lines

variable (m : (ℓ : Loc nD τ sig) → Buf (Elt Ideal) ℓ) (c : Dev nD)

/-- The table of the decoded and clipped boxes. -/
theorem entry_v65 (i : Fin 5000) (f : Fin 4) : (entryContents preI m c (Proc.devRef .tc main_v65) : V S5000x4) (ix2 i f)
    = decode (rowOf (m ((c : Thread nD τ).loc main_arg0)) (m ((c : Thread nD τ).loc main_arg1)) i) f := by
  simp only [entryContents, afterL_cons, afterL_nil]
  rw [lines_v65 _ (line_v50 _) (line_cst_5 _) (line_cst_6 _), line_v48, decode_corners]

/-- The scores are unchanged at the last line. -/
theorem before_arg2 : (after hostOps0_7 (after hostOps0_6 (after hostOps0_5 (after hostOps0_4 (after hostOps0_3 (after hostOps0_2
    (after hostOps0_1 (after hostOps0 (launchContents m c)))))))) (Proc.devRef .tc main_arg2) : V S5000)
      = m ((c : Thread nD τ).loc main_arg2) := by
  after_reads_simp

/-- The table of the best thousand boxes. -/
theorem entry_v72 (j : Fin 1000) (f : Fin 4) : (entryContents preI m c (Proc.devRef .tc main_v72) : V S1000x4) (ix2 j f)
    = decode (rowOf (m ((c : Thread nD τ).loc main_arg0)) (m ((c : Thread nD τ).loc main_arg1)) (Ker.best (m ((c : Thread nD τ).loc main_arg2)) j)) f := by
  rw [← entry_v65]
  simp only [entryContents, afterL_cons, afterL_nil]
  rw [line_v72, gather_apply, before_arg2]

/-- Their scores. -/
theorem entry_values (j : Fin 1000) : (entryContents preI m c (Proc.devRef .tc main_values) : V S1000) (ix1 j)
    = (m ((c : Thread nD τ).loc main_arg2) : V S5000) (ix1 (Ker.best (m ((c : Thread nD τ).loc main_arg2)) j)) := by
  simp only [entryContents, afterL_cons, afterL_nil]
  rw [line_values, before_arg2]
  exact Ker.topK_values _ _ j

/-- Their overlaps are above one half where two boxes overlap too much. -/
theorem entry_v123 (i j : Fin 1000) :
    Ideal.ofBits .f32 0x3F000000#32 < (entryContents preI m c (Proc.devRef .tc main_v123) : V S1000x1000) (ix2 i j)
      ↔ over (fun f => (entryContents preI m c (Proc.devRef .tc main_v72) : V S1000x4) (ix2 i f))
          (fun f => (entryContents preI m c (Proc.devRef .tc main_v72) : V S1000x4) (ix2 j f)) := by
  simp only [entryContents, afterL_cons, afterL_nil]
  rw [line_v123]
  exact overlaps_apply _ i j

end Cert.Nms.Ref

end
-- ==== Proof.RefLoop.lean ====
/- The reference's greedy pass: after k trips of the loop the marks are those of the first k boxes' passes, and the
   result is the table of the best boxes and their scores with the marks' zeros in it. -/
module

public import proofs.«01_k».proof.Proof.RefValue
public import proofs.«01_k».proof.Proof.Passes
public import Idealize.ShloMosaic.Lib.StableHlo.ReadAt
public import Idealize.ShloMosaic.Lib.Pointwise
public import Idealize.ShloMosaic.Lib.DynamicIndex

@[expose] public section

set_option maxRecDepth 100000

noncomputable section

namespace Cert.Nms.Ref

open Idealize.ShloMosaic Idealize.ShloMosaic.TcCoe Idealize.ShloMosaic.Tactic
open Idealize.SL.Sem
open Idealize.ShloMosaic.StableHlo Idealize.ShloMosaic.HostLoop
open Cert.ReferenceIdeal Cert.ReferenceIdeal.Gen Cert.ReferenceIdeal.Value

/-- A row of the overlaps, sliced at its number. -/
theorem row_read (t : V S1000x1000) (st : Fin 2 → ℤ) (h : S1000x1000.Slices (fun _ => 0) S1x1000) (k j : Fin 1000)
    (h0 : st 0 = k.val) (h1 : st 1 = 0) : Host.dynamicSlice S1x1000 t st h (ix2 0 j) = t (ix2 k j) := by
  have hk := k.isLt
  rw [Host.dynamicSlice_eq_extractStridedSlice S1x1000 t st ![k.val, 0] h
    ⟨rfl, fun a => by fin_cases a <;> simp⟩ (fun a => by fin_cases a <;> [exact h0; exact h1])]
  refine congrArg t ?_
  funext a
  fin_cases a <;> refine Fin.ext ?_
  · show k.val + 0 = k.val
    omega
  · show 0 + j.val = j.val
    omega

/-- One mark, sliced at its number. -/
theorem mark_read (q : IVec S1000 1) (st : Fin 1 → ℤ) (h : S1000.Slices (fun _ => 0) S1) (k : Fin 1000)
    (h0 : st 0 = k.val) : Host.dynamicSlice S1 q st h (ix1 0) = q (ix1 k) := by
  have hk := k.isLt
  rw [Host.dynamicSlice_eq_extractStridedSlice S1 q st ![k.val] h
    ⟨rfl, fun a => by fin_cases a; simp⟩ (fun a => by fin_cases a; exact h0)]
  refine congrArg q ?_
  funext a
  fin_cases a
  refine Fin.ext ?_
  show k.val + 0 = k.val
  omega

/-- One pass over the marks, at one entry: a mark stays unless box `k` is still marked, overlaps the entry's box and is before it. -/
theorem step_apply (W : Valuation τ sig (Elt Ideal)) (t : V S1000x1000) (q : IVec S1000 1) (k : Fin 1000)
    (h0 : W (Proc.devRef .tc main_v126_0) = t) (h4 : W (Proc.devRef .tc main_v126_4) = q)
    (h3 : W (Proc.devRef .tc main_v126_3) = fun _ => BitVec.ofNat 32 k.val)
    (h1 : W (Proc.devRef .tc main_v126_1) = iotaInDim S1000 32 0) (j : Fin 1000) :
    (step_main_v126_4 W : IVec S1000 1) (ix1 j) = 1#1
      ↔ q (ix1 j) = 1#1 ∧ ¬((Ideal.ofBits .f32 0x3F000000#32 < t (ix2 k j) ∧ q (ix1 k) = 1#1) ∧ k.val < j.val) := by
  unfold step_main_v126_4 res_main_while0b_v135
  rw [h3, h1, h0, h4]
  have hk : (BitVec.ofNat 32 k.val).toInt = k.val := toInt_ofNat_of_lt (by have := k.isLt; omega)
  have hj : (BitVec.ofNat 32 j.val).toInt = j.val := toInt_ofNat_of_lt (by have := j.isLt; omega)
  have hn : (select (cmpi .slt (fun _ => BitVec.ofNat 32 k.val) (constantI S_ 32 0#32))
      (addi (fun _ => BitVec.ofNat 32 k.val) (constantI S_ 32 1000#32)) (fun _ => BitVec.ofNat 32 k.val) : IVec S_ 32) (Shape.Idx.first h_S_)
        = BitVec.ofNat 32 k.val := select_slt_zero_of_nonneg _ _ _ _ (by rw [hk]; omega)
  simp only [id_eq]
  generalize hr : Host.dynamicSlice S1x1000 t _ sliceFits_S1000x1000_S1x1000 = r
  generalize hm : Host.dynamicSlice S1 q _ sliceFits_S1000_S1 = w
  have er : r (ix2 0 j) = t (ix2 k j) := by
    rw [← hr]
    exact row_read t _ _ k j ((congrArg BitVec.toInt hn).trans hk) rfl
  have ew : w (ix1 0) = q (ix1 k) := by
    rw [← hm]
    exact mark_read q _ _ k ((congrArg BitVec.toInt hn).trans hk)
  pointwise
  rw [er, ew]
  show q (ix1 j) &&& ~~~((BitVec.ofBool _ &&& q (ix1 k)) &&& BitVec.ofBool ((BitVec.ofNat 32 k.val).slt (BitVec.ofNat 32 j.val))) = 1#1 ↔ _
  rw [BitVec.slt_eq_decide, hk, hj]
  generalize q (ix1 j) = a
  generalize q (ix1 k) = b
  by_cases hp : Ideal.ofBits .f32 0x3F000000#32 < t (ix2 k j) <;> by_cases hl : k.val < j.val <;>
    simp only [hp, hl, Nat.cast_lt, decide_true, decide_false] <;> revert a b <;> decide

variable (m : (ℓ : Loc nD τ sig) → Buf (Elt Ideal) ℓ) (c : Dev nD)

/-- What the loop carries when it starts. -/
theorem entry_carried :
    (entryContents preI m c (Proc.devRef .tc main_v126_0) : V S1000x1000) = entryContents preI m c (Proc.devRef .tc main_v123)
    ∧ (entryContents preI m c (Proc.devRef .tc main_v126_1) : IVec S1000 32) = iotaInDim S1000 32 0
    ∧ (entryContents preI m c (Proc.devRef .tc main_v126_3) : IVec S_ 32) = (fun _ => BitVec.ofNat 32 0)
    ∧ ∀ j : Fin 1000, (entryContents preI m c (Proc.devRef .tc main_v126_4) : IVec S1000 1) (ix1 j) = 1#1 := by
  simp only [entryContents, afterL_cons, afterL_nil]
  generalize after hostOps0_7 (after hostOps0_6 (after hostOps0_5 (after hostOps0_4 (after hostOps0_3 (after hostOps0_2
    (after hostOps0_1 (after hostOps0 (launchContents m c)))))))) = W
  refine ⟨?_, ?_, ?_, fun j => ?_⟩
  · after_reads_simp
    rfl
  · after_reads_simp
    rfl
  · after_reads_simp
    rfl
  · after_reads_simp
    rfl

/-- The corners of the `i`-th of the best boxes. -/
def bestBox (i : ℕ) : Fin 4 → EReal :=
  fun f => (entryContents preI m c (Proc.devRef .tc main_v72) : V S1000x4) (ix2 ⟨min i 999, by omega⟩ f)

/-- Below a thousand the number is its own minimum with 999. -/
theorem bestBox_lt (i : Fin 1000) :
    bestBox m c i.val = fun f => (entryContents preI m c (Proc.devRef .tc main_v72) : V S1000x4) (ix2 i f) := by
  have : (⟨min i.val 999, by omega⟩ : Fin 1000) = i := Fin.ext (by have := i.isLt; show min i.val 999 = i.val; omega)
  unfold bestBox
  rw [this]

/-- After `k` trips: the overlaps and the numbers as at the start, the counter at `k`, and the marks of `k` passes. -/
theorem trips (k : ℕ) :
    ((STEP^[k] (entryContents preI m c)) (Proc.devRef .tc main_v126_0) = entryContents preI m c (Proc.devRef .tc main_v123)
      ∧ (STEP^[k] (entryContents preI m c)) (Proc.devRef .tc main_v126_1) = iotaInDim S1000 32 0
      ∧ (STEP^[k] (entryContents preI m c)) (Proc.devRef .tc main_v126_3) = (fun _ => BitVec.ofNat 32 k))
    ∧ (k ≤ 1000 → ∀ j : Fin 1000, ((STEP^[k] (entryContents preI m c)) (Proc.devRef .tc main_v126_4) : IVec S1000 1) (ix1 j) = 1#1
        ↔ kept (Supp (bestBox m c)) k j.val) := by
  induction k with
  | zero =>
    obtain ⟨e0, e1, e3, e4⟩ := entry_carried m c
    exact ⟨⟨e0, e1, e3⟩, fun _ j => ⟨fun _ => trivial, fun _ => e4 j⟩⟩
  | succ k ih =>
    obtain ⟨⟨h0, h1, h3⟩, h4⟩ := ih
    rw [Function.iterate_succ_apply']
    refine ⟨⟨(STEP_main_v126_0 _).trans h0, (STEP_main_v126_1 _).trans h1, (STEP_main_v126_3 _).trans ?_⟩, fun hk j => ?_⟩
    · unfold step_main_v126_3
      rw [h3]
      funext i
      show BitVec.ofNat 32 k + 1#32 = BitVec.ofNat 32 (k + 1)
      rw [BitVec.ofNat_add]
    · have hl : k < 1000 := by omega
      have hb : Ideal.ofBits .f32 0x3F000000#32 < (entryContents preI m c (Proc.devRef .tc main_v123) : V S1000x1000) (ix2 ⟨k, hl⟩ j)
          ↔ over (bestBox m c k) (bestBox m c j.val) := by
        rw [entry_v123, bestBox_lt m c j, show bestBox m c k = _ from bestBox_lt m c ⟨k, hl⟩]
      have hs := step_apply _ _ _ ⟨k, hl⟩ h0 rfl h3 h1 j
      rw [h4 (by omega) j, h4 (by omega) ⟨k, hl⟩, hb] at hs
      rw [STEP_main_v126_4]
      exact hs.trans (and_congr_right' (not_congr and_right_comm))

/-- The mark as a factor: a kept box's is one, another's zero. -/
theorem factor (b : BitVec 1) (p : Prop) (h : b = 1#1 ↔ p) : (FloatOps.uitofp (F := Ideal) .f32 b : EReal) = ind p := by
  unfold ind
  by_cases hp : p
  · rw [if_pos hp, h.mpr hp]
    show (((1#1 : BitVec 1).toNat : ℝ) : EReal) = 1
    simp
  · rw [if_neg hp, show b = 0#1 from (BitVec.eq_zero_or_eq_one b).resolve_right fun e => hp (h.mp e)]
    show (((0#1 : BitVec 1).toNat : ℝ) : EReal) = 0
    simp

/-- The operations after the loop: the table and the scores times the marks, side by side. -/
theorem tail_v133 (W : Valuation τ sig (Elt Ideal)) (t : V S1000x4) (v : V S1000) (q : IVec S1000 1)
    (ht : W (Proc.devRef .tc main_v72) = t) (hv : W (Proc.devRef .tc main_values) = v) (hq : W (Proc.devRef .tc main_v126_4) = q)
    (j : Fin 1000) (f : Fin 5) : (after hostOps0_9 W (Proc.devRef .tc main_v133) : V S1000x5) (ix2 j f)
        = (![t (ix2 j 0), t (ix2 j 1), t (ix2 j 2), t (ix2 j 3), v (ix1 j)] f : EReal)
          * (FloatOps.uitofp (F := Ideal) .f32 (q (ix1 j)) : EReal) := by
  fin_cases f <;> (
    after_reads_simp
    subst ht hv hq
    pointwise)

/-- The contents after the loop's last condition: a buffer the loop does not write, as it was before the loop. -/
theorem last_keep (r : Ref sig .tc) (hc : r ∉ condOps_W) (hb : r ∉ while0Ops0_W) :
    after condOps (atK m 1000 c) (Proc.devRef .tc r) = entryContents preI m c (Proc.devRef .tc r) :=
  (after_of_writes_sub condOps _ condOps_writes hc).trans (atK_keep m c r hc hb 1000)

/-- The marks after the last condition. -/
theorem last_marks (j : Fin 1000) : (after condOps (atK m 1000 c) (Proc.devRef .tc main_v126_4) : IVec S1000 1) (ix1 j) = 1#1
    ↔ kept (Supp (bestBox m c)) 1000 j.val := by
  rw [cond_keeps (atK m 1000 c) main_v126_4 (by decide), atK_agree m c 1000 main_v126_4 (by decide)]
  exact (trips m c 1000).2 le_rfl j

/-- The result: the best boxes and their scores, each times its mark. -/
theorem final_v133 (j : Fin 1000) (f : Fin 5) :
    (finalContents condOps preI bodyI postI 1000 m c (Proc.devRef .tc main_v133) : V S1000x5) (ix2 j f)
      = (![bestBox m c j.val 0, bestBox m c j.val 1, bestBox m c j.val 2, bestBox m c j.val 3,
          (entryContents preI m c (Proc.devRef .tc main_values) : V S1000) (ix1 j)] f : EReal)
          * ind (kept (Supp (bestBox m c)) 1000 j.val) := by
  unfold finalContents
  rw [afterL_cons, afterL_nil, tail_v133 _ _ _ _ (last_keep m c main_v72 (by decide +kernel) (by decide +kernel))
    (last_keep m c main_values (by decide +kernel) (by decide +kernel)) rfl j f, factor _ _ (last_marks m c j), bestBox_lt]

end Cert.Nms.Ref

end
-- ==== Proof.Equal.lean ====
/- The kernel and the reference, on the same arguments: every entry of the two results is the same product. -/
module

public import proofs.«01_k».proof.Proof.KernelValue
public import proofs.«01_k».proof.Proof.RefLoop

@[expose] public section

set_option maxRecDepth 100000

noncomputable section

namespace Cert.Nms

open Idealize.ShloMosaic Idealize.ShloMosaic.TcCoe
open Idealize.SL.Sem
open Idealize.ShloMosaic.StableHlo Idealize.ShloMosaic.HostLoop
open Cert.ReferenceIdeal Cert.ReferenceIdeal.Gen Cert.ReferenceIdeal.Value

/-- The side condition of the precondition's function. -/
theorem pre_facts : Cert.Pre_padded_last.Facts := ⟨by decide⟩

/-- The precondition at an entry: no score is below the padding's. -/
theorem pre_apply (b d : Ref.V S5000x4) (s : Ref.V S5000)
    (h : @Cert.Pre_padded_last.fn pre_facts Ideal _ b d s = fun _ => 1#1) (i : Fin 5000) :
    Ideal.ofBits .f32 0xBF800000#32 ≤ s (ix1 i) := by
  have e : BitVec.ofBool (decide (Ideal.ofBits .f32 0xBF800000#32 ≤ s (ix1 i))) = 1#1 := congrFun h (ix1 i)
  by_contra hn
  rw [decide_eq_false hn] at e
  exact absurd e (by decide)

variable (m : (ℓ : Loc nD τ sig) → Buf (Elt Ideal) ℓ) (c : Dev nD)

/-- The reference's best boxes are the kernel's. -/
theorem bestBox_eq (j : Fin 1000) : Ref.bestBox m c j.val
    = Ker.bestBox (m ((c : Thread nD τ).loc main_arg0)) (m ((c : Thread nD τ).loc main_arg1)) (m ((c : Thread nD τ).loc main_arg2)) j.val := by
  rw [Ref.bestBox_lt, Ker.bestBox_lt]
  funext f
  exact Ref.entry_v72 m c j f

/-- The reference's result is the one the kernel's block gives on the reference's arguments. -/
theorem same (hs : ∀ i : Fin 5000, Ideal.ofBits .f32 0xBF800000#32 ≤ (m ((c : Thread nD τ).loc main_arg2) : Ref.V S5000) (ix1 i)) :
    (finalContents condOps preI bodyI postI 1000 m c (Proc.devRef .tc main_v133) : Ref.V S1000x5)
      = Ker.result (Ker.block (m ((c : Thread nD τ).loc main_arg0)) (m ((c : Thread nD τ).loc main_arg1)) (m ((c : Thread nD τ).loc main_arg2))) := by
  funext p
  obtain ⟨j, f, rfl⟩ : ∃ (j : Fin 1000) (f : Fin 5), p = ix2 j f := ⟨_, _, eq_ix2 p⟩
  refine (Ref.final_v133 m c j f).trans (Eq.trans ?_ (Ker.result_value _ _ _ hs j f).symm)
  have hk := kept_congr (N := 1000) (O := Supp (Ref.bestBox m c))
    (O' := Supp (Ker.bestBox (m ((c : Thread nD τ).loc main_arg0)) (m ((c : Thread nD τ).loc main_arg1)) (m ((c : Thread nD τ).loc main_arg2))))
    (fun i k hi hk => by
      unfold Supp
      rw [show Ref.bestBox m c i = _ from bestBox_eq m c ⟨i, hi⟩, show Ref.bestBox m c k = _ from bestBox_eq m c ⟨k, hk⟩])
    1000 j.val le_rfl j.isLt
  rw [propext hk, bestBox_eq, Ref.entry_values]

end Cert.Nms

end
-- ==== Proof.lean ====
/- The claims, assembled: the frames from the generated runs and `RefRun`, the equal results from `KernelHost`, `RefRun`
   and `Equal`. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RefRun
public import proofs.«01_k».proof.Proof.Equal
public import Idealize.ShloMosaic.Adequacy
public import Idealize.ShloMosaic.Init

@[expose] public section

noncomputable section

namespace Cert.Proof

open Idealize.ShloMosaic Idealize.SL.Sem Cert.Kernel

/-- On the same arguments, no score below the padding's, the kernel and the reference both run and end with equal results. -/
theorem equal : Cert.algebraic_KernelIdeal_ReferenceIdeal_pre_padded_last (hKernelIdeal := Cert.KernelIdeal.Gen.facts)
    (hReferenceIdeal := Cert.ReferenceIdeal.Gen.facts) (hPre_padded_last := Cert.Nms.pre_facts) := by
  intro m g m' g' hpre hargs
  refine ⟨fun c => Cert.Nms.Ker.result (Cert.Nms.Ker.block (Cert.Nms.Ker.boxes m c) (Cert.Nms.Ker.deltas m c) (Cert.Nms.Ker.scores m c)),
    Cert.Nms.Ker.run m g, ?_⟩
  refine (θ_run Cert.ReferenceIdeal.defs _ _).mono (fun r h c => ?_) (Cert.ReferenceIdeal.Value.run_fold (F := Ideal) m' g')
  obtain ⟨e0, e1, e2⟩ := hargs c
  refine ⟨(h c Cert.ReferenceIdeal.main_v133 rfl).trans ?_, (h c Cert.ReferenceIdeal.main_arg0 rfl).trans (Cert.Nms.Ref.args_keep m' c).1,
    (h c Cert.ReferenceIdeal.main_arg1 rfl).trans (Cert.Nms.Ref.args_keep m' c).2.1,
    (h c Cert.ReferenceIdeal.main_arg2 rfl).trans (Cert.Nms.Ref.args_keep m' c).2.2⟩
  refine (Cert.Nms.same m' c fun i => ?_).trans ?_
  · rw [e2]
    exact Cert.Nms.pre_apply _ _ _ (hpre c) i
  · rw [e0, e1, e2]
    rfl

/-- Everything claimed. -/
theorem claim : Cert.Claim := ⟨Cert.Kernel.Gen.facts, Cert.KernelIdeal.Gen.facts, Cert.ReferenceIdeal.Gen.facts, Cert.Nms.pre_facts,
  fun m ρ _ => Cert.Kernel.Gen.frame m ρ, fun m ρ _ => Cert.KernelIdeal.Gen.frame m ρ, fun m ρ _ => Cert.KernelIdeal.Gen.frame m ρ,
  Cert.Nms.Ref.frame, fun m ρ _ => Cert.Nms.Ref.frame m ρ trivial, trivial, equal⟩

end Cert.Proof

end
